-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 2048]⟩ ⟨2, ![4096, 16384]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![16384, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 4096]⟩ ⟨2, ![4096, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S512x4096 : Shape := ⟨2, ![512, 4096]⟩
abbrev S2048x512 : Shape := ⟨2, ![2048, 512]⟩
abbrev S3x512x2048 : Shape := ⟨3, ![3, 512, 2048]⟩
abbrev S6x2x512x704 : Shape := ⟨4, ![6, 2, 512, 704]⟩
abbrev S6x512x704 : Shape := ⟨3, ![6, 512, 704]⟩
abbrev S4 : Shape := ⟨1, ![4]⟩
abbrev S6x2 : Shape := ⟨2, ![6, 2]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S2048x384 : Shape := ⟨2, ![2048, 384]⟩
abbrev S2048x704 : Shape := ⟨2, ![2048, 704]⟩
abbrev S512x704 : Shape := ⟨2, ![512, 704]⟩
abbrev S1x1x512x704 : Shape := ⟨4, ![1, 1, 512, 704]⟩
abbrev S1x1 : Shape := ⟨2, ![1, 1]⟩
abbrev S2048x256 : Shape := ⟨2, ![2048, 256]⟩
abbrev S2048x640 : Shape := ⟨2, ![2048, 640]⟩
abbrev S512x640 : Shape := ⟨2, ![512, 640]⟩
abbrev S1x1x512x640 : Shape := ⟨4, ![1, 1, 512, 640]⟩
abbrev S1x512x704 : Shape := ⟨3, ![1, 512, 704]⟩
abbrev S1x512x640 : Shape := ⟨3, ![1, 512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S512x4096, .f32⟩
  | .local _ .vmem, ⟨0, _⟩ => ⟨S512x4096, .f32⟩
  | .local _ .vmem, ⟨1, _⟩ => ⟨S2048x4096, .bf16⟩
  | .local _ .vmem, ⟨2, _⟩ => ⟨S2048x512, .f32⟩
  | .local _ .vmem, ⟨3, _⟩ => ⟨S3x512x2048, .f32⟩
  | .local _ .vmem, ⟨4, _⟩ => ⟨S6x2x512x704, .bf16⟩
  | .local _ .vmem, ⟨5, _⟩ => ⟨S6x512x704, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 13 29 bufScoped semScoped dmaSemScoped tileCredit tileCredit_eq_zero tileCredit_pos).withBarriers [(0, 12)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 12

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v7 : BitVec 32 := Scalar.xori v5 c1_i32_2
  let c1_i32_3 : BitVec 32 := 1#32
  let v8 : BitVec 32 := Scalar.shrsi v7 c1_i32_3
  let c1_i32_4 : BitVec 32 := 1#32
  let v9 : BitVec 32 := Scalar.andi v8 c1_i32_4
  let v10 : BitVec 32 := Scalar.xori v7 v9
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v13 : BitVec 32 := Scalar.xori v5 c2_i32
  let c1_i32_7 : BitVec 32 := 1#32
  let v14 : BitVec 32 := Scalar.shrsi v13 c1_i32_7
  let c1_i32_8 : BitVec 32 := 1#32
  let v15 : BitVec 32 := Scalar.andi v14 c1_i32_8
  let v16 : BitVec 32 := Scalar.xori v13 v15
  let c1_i32_10 : BitVec 32 := 1#32
  let v17 : BitVec 32 := Scalar.muli v16 c1_i32_10
  let v18 : BitVec 32 := Scalar.addi c0_i32_11 v17
  v18.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_15 : BitVec 32 := 1#32
  let v23 : BitVec 32 := Scalar.muli v22 c1_i32_15
  let v24 : BitVec 32 := Scalar.addi c0_i32_16 v23
  v24.toNat
def k0_off1 (d0 : Dev nD) (c4_i32_17 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v25 : BitVec 32 := Scalar.xori v5 c4_i32_17
  let c1_i32_18 : BitVec 32 := 1#32
  let v26 : BitVec 32 := Scalar.shrsi v25 c1_i32_18
  let c1_i32_19 : BitVec 32 := 1#32
  let v27 : BitVec 32 := Scalar.andi v26 c1_i32_19
  let v28 : BitVec 32 := Scalar.xori v25 v27
  let c512_i32 : BitVec 32 := 512#32
  let v29 : BitVec 32 := Scalar.muli v28 c512_i32
  let c0_i32_24 : BitVec 32 := 0#32
  ![v29.toNat, 0]
def k0_dev4 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_99 : BitVec 32 := 1#32
  let v113 : BitVec 32 := Scalar.xori v5 c1_i32_99
  let c1_i32_100 : BitVec 32 := 1#32
  let v114 : BitVec 32 := Scalar.shrsi v113 c1_i32_100
  let c1_i32_101 : BitVec 32 := 1#32
  let v115 : BitVec 32 := Scalar.andi v114 c1_i32_101
  let v116 : BitVec 32 := Scalar.xori v113 v115
  let c1_i32_110 : BitVec 32 := 1#32
  let v117 : BitVec 32 := Scalar.muli v116 c1_i32_110
  let v118 : BitVec 32 := Scalar.addi c0_i32_111 v117
  v118.toNat
def k0_dev5 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_124 : BitVec 32 := 1#32
  let v136 : BitVec 32 := Scalar.xori v5 c1_i32_124
  let c1_i32_125 : BitVec 32 := 1#32
  let v137 : BitVec 32 := Scalar.shrsi v136 c1_i32_125
  let c1_i32_126 : BitVec 32 := 1#32
  let v138 : BitVec 32 := Scalar.andi v137 c1_i32_126
  let v139 : BitVec 32 := Scalar.xori v136 v138
  let c1_i32_135 : BitVec 32 := 1#32
  let v140 : BitVec 32 := Scalar.muli v139 c1_i32_135
  let v141 : BitVec 32 := Scalar.addi c0_i32_136 v140
  v141.toNat
def k0_dev6 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_195 : BitVec 32 := 2#32
  let v208 : BitVec 32 := Scalar.xori v5 c2_i32_195
  let c1_i32_196 : BitVec 32 := 1#32
  let v209 : BitVec 32 := Scalar.shrsi v208 c1_i32_196
  let c1_i32_197 : BitVec 32 := 1#32
  let v210 : BitVec 32 := Scalar.andi v209 c1_i32_197
  let v211 : BitVec 32 := Scalar.xori v208 v210
  let c1_i32_206 : BitVec 32 := 1#32
  let v212 : BitVec 32 := Scalar.muli v211 c1_i32_206
  let v213 : BitVec 32 := Scalar.addi c0_i32_207 v212
  v213.toNat
def k0_dev7 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_220 : BitVec 32 := 2#32
  let v231 : BitVec 32 := Scalar.xori v5 c2_i32_220
  let c1_i32_221 : BitVec 32 := 1#32
  let v232 : BitVec 32 := Scalar.shrsi v231 c1_i32_221
  let c1_i32_222 : BitVec 32 := 1#32
  let v233 : BitVec 32 := Scalar.andi v232 c1_i32_222
  let v234 : BitVec 32 := Scalar.xori v231 v233
  let c1_i32_231 : BitVec 32 := 1#32
  let v235 : BitVec 32 := Scalar.muli v234 c1_i32_231
  let v236 : BitVec 32 := Scalar.addi c0_i32_232 v235
  v236.toNat
def k0_dev8 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_291 : BitVec 32 := 4#32
  let v303 : BitVec 32 := Scalar.xori v5 c4_i32_291
  let c1_i32_292 : BitVec 32 := 1#32
  let v304 : BitVec 32 := Scalar.shrsi v303 c1_i32_292
  let c1_i32_293 : BitVec 32 := 1#32
  let v305 : BitVec 32 := Scalar.andi v304 c1_i32_293
  let v306 : BitVec 32 := Scalar.xori v303 v305
  let c1_i32_302 : BitVec 32 := 1#32
  let v307 : BitVec 32 := Scalar.muli v306 c1_i32_302
  let v308 : BitVec 32 := Scalar.addi c0_i32_303 v307
  v308.toNat
def k0_dev9 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_316 : BitVec 32 := 4#32
  let v326 : BitVec 32 := Scalar.xori v5 c4_i32_316
  let c1_i32_317 : BitVec 32 := 1#32
  let v327 : BitVec 32 := Scalar.shrsi v326 c1_i32_317
  let c1_i32_318 : BitVec 32 := 1#32
  let v328 : BitVec 32 := Scalar.andi v327 c1_i32_318
  let v329 : BitVec 32 := Scalar.xori v326 v328
  let c1_i32_326 : BitVec 32 := 1#32
  let v330 : BitVec 32 := Scalar.muli v329 c1_i32_326
  let v331 : BitVec 32 := Scalar.addi c0_i32_327 v330
  v331.toNat
def k0_dev10 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_472 : BitVec 32 := 2#32
  let v473 : BitVec 32 := Scalar.xori v5 c2_i32_472
  let c1_i32_473 : BitVec 32 := 1#32
  let v474 : BitVec 32 := Scalar.shrsi v473 c1_i32_473
  let c1_i32_474 : BitVec 32 := 1#32
  let v475 : BitVec 32 := Scalar.andi v474 c1_i32_474
  let v476 : BitVec 32 := Scalar.xori v473 v475
  let c1_i32_478 : BitVec 32 := 1#32
  let v479 : BitVec 32 := Scalar.muli v476 c1_i32_478
  let v480 : BitVec 32 := Scalar.addi c0_i32_479 v479
  v480.toNat
def k0_dev11 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_496 : BitVec 32 := 4#32
  let v491 : BitVec 32 := Scalar.xori v5 c4_i32_496
  let c1_i32_497 : BitVec 32 := 1#32
  let v492 : BitVec 32 := Scalar.shrsi v491 c1_i32_497
  let c1_i32_498 : BitVec 32 := 1#32
  let v493 : BitVec 32 := Scalar.andi v492 c1_i32_498
  let v494 : BitVec 32 := Scalar.xori v491 v493
  let c1_i32_502 : BitVec 32 := 1#32
  let v497 : BitVec 32 := Scalar.muli v494 c1_i32_502
  let v498 : BitVec 32 := Scalar.addi c0_i32_503 v497
  v498.toNat
def k0_dev12 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_520 : BitVec 32 := 1#32
  let v509 : BitVec 32 := Scalar.xori v5 c1_i32_520
  let c1_i32_521 : BitVec 32 := 1#32
  let v510 : BitVec 32 := Scalar.shrsi v509 c1_i32_521
  let c1_i32_522 : BitVec 32 := 1#32
  let v511 : BitVec 32 := Scalar.andi v510 c1_i32_522
  let v512 : BitVec 32 := Scalar.xori v509 v511
  let c1_i32_526 : BitVec 32 := 1#32
  let v515 : BitVec 32 := Scalar.muli v512 c1_i32_526
  let v516 : BitVec 32 := Scalar.addi c0_i32_527 v515
  v516.toNat
def k0_dev13 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_544 : BitVec 32 := 2#32
  let v527 : BitVec 32 := Scalar.xori v5 c2_i32_544
  let c1_i32_545 : BitVec 32 := 1#32
  let v528 : BitVec 32 := Scalar.shrsi v527 c1_i32_545
  let c1_i32_546 : BitVec 32 := 1#32
  let v529 : BitVec 32 := Scalar.andi v528 c1_i32_546
  let v530 : BitVec 32 := Scalar.xori v527 v529
  let c1_i32_550 : BitVec 32 := 1#32
  let v533 : BitVec 32 := Scalar.muli v530 c1_i32_550
  let v534 : BitVec 32 := Scalar.addi c0_i32_551 v533
  v534.toNat
def k0_dev14 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_568 : BitVec 32 := 4#32
  let v545 : BitVec 32 := Scalar.xori v5 c4_i32_568
  let c1_i32_569 : BitVec 32 := 1#32
  let v546 : BitVec 32 := Scalar.shrsi v545 c1_i32_569
  let c1_i32_570 : BitVec 32 := 1#32
  let v547 : BitVec 32 := Scalar.andi v546 c1_i32_570
  let v548 : BitVec 32 := Scalar.xori v545 v547
  let c1_i32_574 : BitVec 32 := 1#32
  let v551 : BitVec 32 := Scalar.muli v548 c1_i32_574
  let v552 : BitVec 32 := Scalar.addi c0_i32_575 v551
  v552.toNat
def k0_dev15 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_592 : BitVec 32 := 1#32
  let v563 : BitVec 32 := Scalar.xori v5 c1_i32_592
  let c1_i32_593 : BitVec 32 := 1#32
  let v564 : BitVec 32 := Scalar.shrsi v563 c1_i32_593
  let c1_i32_594 : BitVec 32 := 1#32
  let v565 : BitVec 32 := Scalar.andi v564 c1_i32_594
  let v566 : BitVec 32 := Scalar.xori v563 v565
  let c1_i32_598 : BitVec 32 := 1#32
  let v569 : BitVec 32 := Scalar.muli v566 c1_i32_598
  let v570 : BitVec 32 := Scalar.addi c0_i32_599 v569
  v570.toNat
def k0_dev16 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_632 : BitVec 32 := 2#32
  let v595 : BitVec 32 := Scalar.xori v5 c2_i32_632
  let c1_i32_633 : BitVec 32 := 1#32
  let v596 : BitVec 32 := Scalar.shrsi v595 c1_i32_633
  let c1_i32_634 : BitVec 32 := 1#32
  let v597 : BitVec 32 := Scalar.andi v596 c1_i32_634
  let v598 : BitVec 32 := Scalar.xori v595 v597
  let c1_i32_643 : BitVec 32 := 1#32
  let v599 : BitVec 32 := Scalar.muli v598 c1_i32_643
  let v600 : BitVec 32 := Scalar.addi c0_i32_644 v599
  v600.toNat
def k0_dev17 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_681 : BitVec 32 := 4#32
  let v633 : BitVec 32 := Scalar.xori v5 c4_i32_681
  let c1_i32_682 : BitVec 32 := 1#32
  let v634 : BitVec 32 := Scalar.shrsi v633 c1_i32_682
  let c1_i32_683 : BitVec 32 := 1#32
  let v635 : BitVec 32 := Scalar.andi v634 c1_i32_683
  let v636 : BitVec 32 := Scalar.xori v633 v635
  let c1_i32_692 : BitVec 32 := 1#32
  let v637 : BitVec 32 := Scalar.muli v636 c1_i32_692
  let v638 : BitVec 32 := Scalar.addi c0_i32_693 v637
  v638.toNat
def k0_dev18 (d0 : Dev nD) : Nat :=
  let c0_i32_742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_730 : BitVec 32 := 1#32
  let v671 : BitVec 32 := Scalar.xori v5 c1_i32_730
  let c1_i32_731 : BitVec 32 := 1#32
  let v672 : BitVec 32 := Scalar.shrsi v671 c1_i32_731
  let c1_i32_732 : BitVec 32 := 1#32
  let v673 : BitVec 32 := Scalar.andi v672 c1_i32_732
  let v674 : BitVec 32 := Scalar.xori v671 v673
  let c1_i32_741 : BitVec 32 := 1#32
  let v675 : BitVec 32 := Scalar.muli v674 c1_i32_741
  let v676 : BitVec 32 := Scalar.addi c0_i32_742 v675
  v676.toNat
def k0_dev19 (d0 : Dev nD) : Nat :=
  let c0_i32_791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_779 : BitVec 32 := 2#32
  let v709 : BitVec 32 := Scalar.xori v5 c2_i32_779
  let c1_i32_780 : BitVec 32 := 1#32
  let v710 : BitVec 32 := Scalar.shrsi v709 c1_i32_780
  let c1_i32_781 : BitVec 32 := 1#32
  let v711 : BitVec 32 := Scalar.andi v710 c1_i32_781
  let v712 : BitVec 32 := Scalar.xori v709 v711
  let c1_i32_790 : BitVec 32 := 1#32
  let v713 : BitVec 32 := Scalar.muli v712 c1_i32_790
  let v714 : BitVec 32 := Scalar.addi c0_i32_791 v713
  v714.toNat
def k0_dev20 (d0 : Dev nD) : Nat :=
  let c0_i32_840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_828 : BitVec 32 := 4#32
  let v747 : BitVec 32 := Scalar.xori v5 c4_i32_828
  let c1_i32_829 : BitVec 32 := 1#32
  let v748 : BitVec 32 := Scalar.shrsi v747 c1_i32_829
  let c1_i32_830 : BitVec 32 := 1#32
  let v749 : BitVec 32 := Scalar.andi v748 c1_i32_830
  let v750 : BitVec 32 := Scalar.xori v747 v749
  let c1_i32_839 : BitVec 32 := 1#32
  let v751 : BitVec 32 := Scalar.muli v750 c1_i32_839
  let v752 : BitVec 32 := Scalar.addi c0_i32_840 v751
  v752.toNat
def k0_dev21 (d0 : Dev nD) : Nat :=
  let c0_i32_889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_877 : BitVec 32 := 1#32
  let v785 : BitVec 32 := Scalar.xori v5 c1_i32_877
  let c1_i32_878 : BitVec 32 := 1#32
  let v786 : BitVec 32 := Scalar.shrsi v785 c1_i32_878
  let c1_i32_879 : BitVec 32 := 1#32
  let v787 : BitVec 32 := Scalar.andi v786 c1_i32_879
  let v788 : BitVec 32 := Scalar.xori v785 v787
  let c1_i32_888 : BitVec 32 := 1#32
  let v789 : BitVec 32 := Scalar.muli v788 c1_i32_888
  let v790 : BitVec 32 := Scalar.addi c0_i32_889 v789
  v790.toNat
def k0_dev22 (d0 : Dev nD) : Nat :=
  let c0_i32_1016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1009 : BitVec 32 := 1#32
  let v902 : BitVec 32 := Scalar.xori v5 c1_i32_1009
  let c1_i32_1010 : BitVec 32 := 1#32
  let v903 : BitVec 32 := Scalar.shrsi v902 c1_i32_1010
  let c1_i32_1011 : BitVec 32 := 1#32
  let v904 : BitVec 32 := Scalar.andi v903 c1_i32_1011
  let v905 : BitVec 32 := Scalar.xori v902 v904
  let c1_i32_1015 : BitVec 32 := 1#32
  let v908 : BitVec 32 := Scalar.muli v905 c1_i32_1015
  let v909 : BitVec 32 := Scalar.addi c0_i32_1016 v908
  v909.toNat
def k0_dev23 (d0 : Dev nD) : Nat :=
  let c0_i32_1040 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1033 : BitVec 32 := 2#32
  let v920 : BitVec 32 := Scalar.xori v5 c2_i32_1033
  let c1_i32_1034 : BitVec 32 := 1#32
  let v921 : BitVec 32 := Scalar.shrsi v920 c1_i32_1034
  let c1_i32_1035 : BitVec 32 := 1#32
  let v922 : BitVec 32 := Scalar.andi v921 c1_i32_1035
  let v923 : BitVec 32 := Scalar.xori v920 v922
  let c1_i32_1039 : BitVec 32 := 1#32
  let v926 : BitVec 32 := Scalar.muli v923 c1_i32_1039
  let v927 : BitVec 32 := Scalar.addi c0_i32_1040 v926
  v927.toNat
def k0_dev24 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1057 : BitVec 32 := 4#32
  let v938 : BitVec 32 := Scalar.xori v5 c4_i32_1057
  let c1_i32_1058 : BitVec 32 := 1#32
  let v939 : BitVec 32 := Scalar.shrsi v938 c1_i32_1058
  let c1_i32_1059 : BitVec 32 := 1#32
  let v940 : BitVec 32 := Scalar.andi v939 c1_i32_1059
  let v941 : BitVec 32 := Scalar.xori v938 v940
  let c1_i32_1063 : BitVec 32 := 1#32
  let v944 : BitVec 32 := Scalar.muli v941 c1_i32_1063
  let v945 : BitVec 32 := Scalar.addi c0_i32_1064 v944
  v945.toNat
def k0_dev25 (d0 : Dev nD) : Nat :=
  let c0_i32_1088 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1081 : BitVec 32 := 1#32
  let v956 : BitVec 32 := Scalar.xori v5 c1_i32_1081
  let c1_i32_1082 : BitVec 32 := 1#32
  let v957 : BitVec 32 := Scalar.shrsi v956 c1_i32_1082
  let c1_i32_1083 : BitVec 32 := 1#32
  let v958 : BitVec 32 := Scalar.andi v957 c1_i32_1083
  let v959 : BitVec 32 := Scalar.xori v956 v958
  let c1_i32_1087 : BitVec 32 := 1#32
  let v962 : BitVec 32 := Scalar.muli v959 c1_i32_1087
  let v963 : BitVec 32 := Scalar.addi c0_i32_1088 v962
  v963.toNat
def k0_dev26 (d0 : Dev nD) : Nat :=
  let c0_i32_1112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1105 : BitVec 32 := 2#32
  let v974 : BitVec 32 := Scalar.xori v5 c2_i32_1105
  let c1_i32_1106 : BitVec 32 := 1#32
  let v975 : BitVec 32 := Scalar.shrsi v974 c1_i32_1106
  let c1_i32_1107 : BitVec 32 := 1#32
  let v976 : BitVec 32 := Scalar.andi v975 c1_i32_1107
  let v977 : BitVec 32 := Scalar.xori v974 v976
  let c1_i32_1111 : BitVec 32 := 1#32
  let v980 : BitVec 32 := Scalar.muli v977 c1_i32_1111
  let v981 : BitVec 32 := Scalar.addi c0_i32_1112 v980
  v981.toNat
def k0_dev27 (d0 : Dev nD) : Nat :=
  let c0_i32_1136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1129 : BitVec 32 := 4#32
  let v992 : BitVec 32 := Scalar.xori v5 c4_i32_1129
  let c1_i32_1130 : BitVec 32 := 1#32
  let v993 : BitVec 32 := Scalar.shrsi v992 c1_i32_1130
  let c1_i32_1131 : BitVec 32 := 1#32
  let v994 : BitVec 32 := Scalar.andi v993 c1_i32_1131
  let v995 : BitVec 32 := Scalar.xori v992 v994
  let c1_i32_1135 : BitVec 32 := 1#32
  let v998 : BitVec 32 := Scalar.muli v995 c1_i32_1135
  let v999 : BitVec 32 := Scalar.addi c0_i32_1136 v998
  v999.toNat
def k0_dev28 (d0 : Dev nD) : Nat :=
  let c0_i32_1181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1169 : BitVec 32 := 1#32
  let v1024 : BitVec 32 := Scalar.xori v5 c1_i32_1169
  let c1_i32_1170 : BitVec 32 := 1#32
  let v1025 : BitVec 32 := Scalar.shrsi v1024 c1_i32_1170
  let c1_i32_1171 : BitVec 32 := 1#32
  let v1026 : BitVec 32 := Scalar.andi v1025 c1_i32_1171
  let v1027 : BitVec 32 := Scalar.xori v1024 v1026
  let c1_i32_1180 : BitVec 32 := 1#32
  let v1028 : BitVec 32 := Scalar.muli v1027 c1_i32_1180
  let v1029 : BitVec 32 := Scalar.addi c0_i32_1181 v1028
  v1029.toNat
def k0_dev29 (d0 : Dev nD) : Nat :=
  let c0_i32_1230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1218 : BitVec 32 := 2#32
  let v1062 : BitVec 32 := Scalar.xori v5 c2_i32_1218
  let c1_i32_1219 : BitVec 32 := 1#32
  let v1063 : BitVec 32 := Scalar.shrsi v1062 c1_i32_1219
  let c1_i32_1220 : BitVec 32 := 1#32
  let v1064 : BitVec 32 := Scalar.andi v1063 c1_i32_1220
  let v1065 : BitVec 32 := Scalar.xori v1062 v1064
  let c1_i32_1229 : BitVec 32 := 1#32
  let v1066 : BitVec 32 := Scalar.muli v1065 c1_i32_1229
  let v1067 : BitVec 32 := Scalar.addi c0_i32_1230 v1066
  v1067.toNat
def k0_dev30 (d0 : Dev nD) : Nat :=
  let c0_i32_1279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1267 : BitVec 32 := 4#32
  let v1100 : BitVec 32 := Scalar.xori v5 c4_i32_1267
  let c1_i32_1268 : BitVec 32 := 1#32
  let v1101 : BitVec 32 := Scalar.shrsi v1100 c1_i32_1268
  let c1_i32_1269 : BitVec 32 := 1#32
  let v1102 : BitVec 32 := Scalar.andi v1101 c1_i32_1269
  let v1103 : BitVec 32 := Scalar.xori v1100 v1102
  let c1_i32_1278 : BitVec 32 := 1#32
  let v1104 : BitVec 32 := Scalar.muli v1103 c1_i32_1278
  let v1105 : BitVec 32 := Scalar.addi c0_i32_1279 v1104
  v1105.toNat
def k0_dev31 (d0 : Dev nD) : Nat :=
  let c0_i32_1328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1316 : BitVec 32 := 1#32
  let v1138 : BitVec 32 := Scalar.xori v5 c1_i32_1316
  let c1_i32_1317 : BitVec 32 := 1#32
  let v1139 : BitVec 32 := Scalar.shrsi v1138 c1_i32_1317
  let c1_i32_1318 : BitVec 32 := 1#32
  let v1140 : BitVec 32 := Scalar.andi v1139 c1_i32_1318
  let v1141 : BitVec 32 := Scalar.xori v1138 v1140
  let c1_i32_1327 : BitVec 32 := 1#32
  let v1142 : BitVec 32 := Scalar.muli v1141 c1_i32_1327
  let v1143 : BitVec 32 := Scalar.addi c0_i32_1328 v1142
  v1143.toNat
def k0_dev32 (d0 : Dev nD) : Nat :=
  let c0_i32_1377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1365 : BitVec 32 := 2#32
  let v1176 : BitVec 32 := Scalar.xori v5 c2_i32_1365
  let c1_i32_1366 : BitVec 32 := 1#32
  let v1177 : BitVec 32 := Scalar.shrsi v1176 c1_i32_1366
  let c1_i32_1367 : BitVec 32 := 1#32
  let v1178 : BitVec 32 := Scalar.andi v1177 c1_i32_1367
  let v1179 : BitVec 32 := Scalar.xori v1176 v1178
  let c1_i32_1376 : BitVec 32 := 1#32
  let v1180 : BitVec 32 := Scalar.muli v1179 c1_i32_1376
  let v1181 : BitVec 32 := Scalar.addi c0_i32_1377 v1180
  v1181.toNat
def k0_dev33 (d0 : Dev nD) : Nat :=
  let c0_i32_1426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1414 : BitVec 32 := 4#32
  let v1214 : BitVec 32 := Scalar.xori v5 c4_i32_1414
  let c1_i32_1415 : BitVec 32 := 1#32
  let v1215 : BitVec 32 := Scalar.shrsi v1214 c1_i32_1415
  let c1_i32_1416 : BitVec 32 := 1#32
  let v1216 : BitVec 32 := Scalar.andi v1215 c1_i32_1416
  let v1217 : BitVec 32 := Scalar.xori v1214 v1216
  let c1_i32_1425 : BitVec 32 := 1#32
  let v1218 : BitVec 32 := Scalar.muli v1217 c1_i32_1425
  let v1219 : BitVec 32 := Scalar.addi c0_i32_1426 v1218
  v1219.toNat
def k0_dev34 (d0 : Dev nD) : Nat :=
  let c0_i32_1553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1546 : BitVec 32 := 4#32
  let v1331 : BitVec 32 := Scalar.xori v5 c4_i32_1546
  let c1_i32_1547 : BitVec 32 := 1#32
  let v1332 : BitVec 32 := Scalar.shrsi v1331 c1_i32_1547
  let c1_i32_1548 : BitVec 32 := 1#32
  let v1333 : BitVec 32 := Scalar.andi v1332 c1_i32_1548
  let v1334 : BitVec 32 := Scalar.xori v1331 v1333
  let c1_i32_1552 : BitVec 32 := 1#32
  let v1337 : BitVec 32 := Scalar.muli v1334 c1_i32_1552
  let v1338 : BitVec 32 := Scalar.addi c0_i32_1553 v1337
  v1338.toNat
def k0_dev35 (d0 : Dev nD) : Nat :=
  let c0_i32_1577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1570 : BitVec 32 := 1#32
  let v1349 : BitVec 32 := Scalar.xori v5 c1_i32_1570
  let c1_i32_1571 : BitVec 32 := 1#32
  let v1350 : BitVec 32 := Scalar.shrsi v1349 c1_i32_1571
  let c1_i32_1572 : BitVec 32 := 1#32
  let v1351 : BitVec 32 := Scalar.andi v1350 c1_i32_1572
  let v1352 : BitVec 32 := Scalar.xori v1349 v1351
  let c1_i32_1576 : BitVec 32 := 1#32
  let v1355 : BitVec 32 := Scalar.muli v1352 c1_i32_1576
  let v1356 : BitVec 32 := Scalar.addi c0_i32_1577 v1355
  v1356.toNat
def k0_dev36 (d0 : Dev nD) : Nat :=
  let c0_i32_1601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1594 : BitVec 32 := 2#32
  let v1367 : BitVec 32 := Scalar.xori v5 c2_i32_1594
  let c1_i32_1595 : BitVec 32 := 1#32
  let v1368 : BitVec 32 := Scalar.shrsi v1367 c1_i32_1595
  let c1_i32_1596 : BitVec 32 := 1#32
  let v1369 : BitVec 32 := Scalar.andi v1368 c1_i32_1596
  let v1370 : BitVec 32 := Scalar.xori v1367 v1369
  let c1_i32_1600 : BitVec 32 := 1#32
  let v1373 : BitVec 32 := Scalar.muli v1370 c1_i32_1600
  let v1374 : BitVec 32 := Scalar.addi c0_i32_1601 v1373
  v1374.toNat
def k0_dev37 (d0 : Dev nD) : Nat :=
  let c0_i32_1625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1618 : BitVec 32 := 4#32
  let v1385 : BitVec 32 := Scalar.xori v5 c4_i32_1618
  let c1_i32_1619 : BitVec 32 := 1#32
  let v1386 : BitVec 32 := Scalar.shrsi v1385 c1_i32_1619
  let c1_i32_1620 : BitVec 32 := 1#32
  let v1387 : BitVec 32 := Scalar.andi v1386 c1_i32_1620
  let v1388 : BitVec 32 := Scalar.xori v1385 v1387
  let c1_i32_1624 : BitVec 32 := 1#32
  let v1391 : BitVec 32 := Scalar.muli v1388 c1_i32_1624
  let v1392 : BitVec 32 := Scalar.addi c0_i32_1625 v1391
  v1392.toNat
def k0_dev38 (d0 : Dev nD) : Nat :=
  let c0_i32_1649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1642 : BitVec 32 := 1#32
  let v1403 : BitVec 32 := Scalar.xori v5 c1_i32_1642
  let c1_i32_1643 : BitVec 32 := 1#32
  let v1404 : BitVec 32 := Scalar.shrsi v1403 c1_i32_1643
  let c1_i32_1644 : BitVec 32 := 1#32
  let v1405 : BitVec 32 := Scalar.andi v1404 c1_i32_1644
  let v1406 : BitVec 32 := Scalar.xori v1403 v1405
  let c1_i32_1648 : BitVec 32 := 1#32
  let v1409 : BitVec 32 := Scalar.muli v1406 c1_i32_1648
  let v1410 : BitVec 32 := Scalar.addi c0_i32_1649 v1409
  v1410.toNat
def k0_dev39 (d0 : Dev nD) : Nat :=
  let c0_i32_1673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1666 : BitVec 32 := 2#32
  let v1421 : BitVec 32 := Scalar.xori v5 c2_i32_1666
  let c1_i32_1667 : BitVec 32 := 1#32
  let v1422 : BitVec 32 := Scalar.shrsi v1421 c1_i32_1667
  let c1_i32_1668 : BitVec 32 := 1#32
  let v1423 : BitVec 32 := Scalar.andi v1422 c1_i32_1668
  let v1424 : BitVec 32 := Scalar.xori v1421 v1423
  let c1_i32_1672 : BitVec 32 := 1#32
  let v1427 : BitVec 32 := Scalar.muli v1424 c1_i32_1672
  let v1428 : BitVec 32 := Scalar.addi c0_i32_1673 v1427
  v1428.toNat
def k0_dev40 (d0 : Dev nD) : Nat :=
  let c0_i32_1718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1706 : BitVec 32 := 4#32
  let v1453 : BitVec 32 := Scalar.xori v5 c4_i32_1706
  let c1_i32_1707 : BitVec 32 := 1#32
  let v1454 : BitVec 32 := Scalar.shrsi v1453 c1_i32_1707
  let c1_i32_1708 : BitVec 32 := 1#32
  let v1455 : BitVec 32 := Scalar.andi v1454 c1_i32_1708
  let v1456 : BitVec 32 := Scalar.xori v1453 v1455
  let c1_i32_1717 : BitVec 32 := 1#32
  let v1457 : BitVec 32 := Scalar.muli v1456 c1_i32_1717
  let v1458 : BitVec 32 := Scalar.addi c0_i32_1718 v1457
  v1458.toNat
def k0_dev41 (d0 : Dev nD) : Nat :=
  let c0_i32_1767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1755 : BitVec 32 := 1#32
  let v1491 : BitVec 32 := Scalar.xori v5 c1_i32_1755
  let c1_i32_1756 : BitVec 32 := 1#32
  let v1492 : BitVec 32 := Scalar.shrsi v1491 c1_i32_1756
  let c1_i32_1757 : BitVec 32 := 1#32
  let v1493 : BitVec 32 := Scalar.andi v1492 c1_i32_1757
  let v1494 : BitVec 32 := Scalar.xori v1491 v1493
  let c1_i32_1766 : BitVec 32 := 1#32
  let v1495 : BitVec 32 := Scalar.muli v1494 c1_i32_1766
  let v1496 : BitVec 32 := Scalar.addi c0_i32_1767 v1495
  v1496.toNat
def k0_dev42 (d0 : Dev nD) : Nat :=
  let c0_i32_1816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1804 : BitVec 32 := 2#32
  let v1529 : BitVec 32 := Scalar.xori v5 c2_i32_1804
  let c1_i32_1805 : BitVec 32 := 1#32
  let v1530 : BitVec 32 := Scalar.shrsi v1529 c1_i32_1805
  let c1_i32_1806 : BitVec 32 := 1#32
  let v1531 : BitVec 32 := Scalar.andi v1530 c1_i32_1806
  let v1532 : BitVec 32 := Scalar.xori v1529 v1531
  let c1_i32_1815 : BitVec 32 := 1#32
  let v1533 : BitVec 32 := Scalar.muli v1532 c1_i32_1815
  let v1534 : BitVec 32 := Scalar.addi c0_i32_1816 v1533
  v1534.toNat
def k0_dev43 (d0 : Dev nD) : Nat :=
  let c0_i32_1865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1853 : BitVec 32 := 4#32
  let v1567 : BitVec 32 := Scalar.xori v5 c4_i32_1853
  let c1_i32_1854 : BitVec 32 := 1#32
  let v1568 : BitVec 32 := Scalar.shrsi v1567 c1_i32_1854
  let c1_i32_1855 : BitVec 32 := 1#32
  let v1569 : BitVec 32 := Scalar.andi v1568 c1_i32_1855
  let v1570 : BitVec 32 := Scalar.xori v1567 v1569
  let c1_i32_1864 : BitVec 32 := 1#32
  let v1571 : BitVec 32 := Scalar.muli v1570 c1_i32_1864
  let v1572 : BitVec 32 := Scalar.addi c0_i32_1865 v1571
  v1572.toNat
def k0_dev44 (d0 : Dev nD) : Nat :=
  let c0_i32_1914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1902 : BitVec 32 := 1#32
  let v1605 : BitVec 32 := Scalar.xori v5 c1_i32_1902
  let c1_i32_1903 : BitVec 32 := 1#32
  let v1606 : BitVec 32 := Scalar.shrsi v1605 c1_i32_1903
  let c1_i32_1904 : BitVec 32 := 1#32
  let v1607 : BitVec 32 := Scalar.andi v1606 c1_i32_1904
  let v1608 : BitVec 32 := Scalar.xori v1605 v1607
  let c1_i32_1913 : BitVec 32 := 1#32
  let v1609 : BitVec 32 := Scalar.muli v1608 c1_i32_1913
  let v1610 : BitVec 32 := Scalar.addi c0_i32_1914 v1609
  v1610.toNat
def k0_dev45 (d0 : Dev nD) : Nat :=
  let c0_i32_1963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1951 : BitVec 32 := 2#32
  let v1643 : BitVec 32 := Scalar.xori v5 c2_i32_1951
  let c1_i32_1952 : BitVec 32 := 1#32
  let v1644 : BitVec 32 := Scalar.shrsi v1643 c1_i32_1952
  let c1_i32_1953 : BitVec 32 := 1#32
  let v1645 : BitVec 32 := Scalar.andi v1644 c1_i32_1953
  let v1646 : BitVec 32 := Scalar.xori v1643 v1645
  let c1_i32_1962 : BitVec 32 := 1#32
  let v1647 : BitVec 32 := Scalar.muli v1646 c1_i32_1962
  let v1648 : BitVec 32 := Scalar.addi c0_i32_1963 v1647
  v1648.toNat
def k0_dev46 (d0 : Dev nD) : Nat :=
  let c0_i32_2090 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2083 : BitVec 32 := 1#32
  let v1760 : BitVec 32 := Scalar.xori v5 c1_i32_2083
  let c1_i32_2084 : BitVec 32 := 1#32
  let v1761 : BitVec 32 := Scalar.shrsi v1760 c1_i32_2084
  let c1_i32_2085 : BitVec 32 := 1#32
  let v1762 : BitVec 32 := Scalar.andi v1761 c1_i32_2085
  let v1763 : BitVec 32 := Scalar.xori v1760 v1762
  let c1_i32_2089 : BitVec 32 := 1#32
  let v1766 : BitVec 32 := Scalar.muli v1763 c1_i32_2089
  let v1767 : BitVec 32 := Scalar.addi c0_i32_2090 v1766
  v1767.toNat
def k0_dev47 (d0 : Dev nD) : Nat :=
  let c0_i32_2114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2107 : BitVec 32 := 2#32
  let v1778 : BitVec 32 := Scalar.xori v5 c2_i32_2107
  let c1_i32_2108 : BitVec 32 := 1#32
  let v1779 : BitVec 32 := Scalar.shrsi v1778 c1_i32_2108
  let c1_i32_2109 : BitVec 32 := 1#32
  let v1780 : BitVec 32 := Scalar.andi v1779 c1_i32_2109
  let v1781 : BitVec 32 := Scalar.xori v1778 v1780
  let c1_i32_2113 : BitVec 32 := 1#32
  let v1784 : BitVec 32 := Scalar.muli v1781 c1_i32_2113
  let v1785 : BitVec 32 := Scalar.addi c0_i32_2114 v1784
  v1785.toNat
def k0_dev48 (d0 : Dev nD) : Nat :=
  let c0_i32_2138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2131 : BitVec 32 := 4#32
  let v1796 : BitVec 32 := Scalar.xori v5 c4_i32_2131
  let c1_i32_2132 : BitVec 32 := 1#32
  let v1797 : BitVec 32 := Scalar.shrsi v1796 c1_i32_2132
  let c1_i32_2133 : BitVec 32 := 1#32
  let v1798 : BitVec 32 := Scalar.andi v1797 c1_i32_2133
  let v1799 : BitVec 32 := Scalar.xori v1796 v1798
  let c1_i32_2137 : BitVec 32 := 1#32
  let v1802 : BitVec 32 := Scalar.muli v1799 c1_i32_2137
  let v1803 : BitVec 32 := Scalar.addi c0_i32_2138 v1802
  v1803.toNat
def k0_dev49 (d0 : Dev nD) : Nat :=
  let c0_i32_2162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2155 : BitVec 32 := 1#32
  let v1814 : BitVec 32 := Scalar.xori v5 c1_i32_2155
  let c1_i32_2156 : BitVec 32 := 1#32
  let v1815 : BitVec 32 := Scalar.shrsi v1814 c1_i32_2156
  let c1_i32_2157 : BitVec 32 := 1#32
  let v1816 : BitVec 32 := Scalar.andi v1815 c1_i32_2157
  let v1817 : BitVec 32 := Scalar.xori v1814 v1816
  let c1_i32_2161 : BitVec 32 := 1#32
  let v1820 : BitVec 32 := Scalar.muli v1817 c1_i32_2161
  let v1821 : BitVec 32 := Scalar.addi c0_i32_2162 v1820
  v1821.toNat
def k0_dev50 (d0 : Dev nD) : Nat :=
  let c0_i32_2186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2179 : BitVec 32 := 2#32
  let v1832 : BitVec 32 := Scalar.xori v5 c2_i32_2179
  let c1_i32_2180 : BitVec 32 := 1#32
  let v1833 : BitVec 32 := Scalar.shrsi v1832 c1_i32_2180
  let c1_i32_2181 : BitVec 32 := 1#32
  let v1834 : BitVec 32 := Scalar.andi v1833 c1_i32_2181
  let v1835 : BitVec 32 := Scalar.xori v1832 v1834
  let c1_i32_2185 : BitVec 32 := 1#32
  let v1838 : BitVec 32 := Scalar.muli v1835 c1_i32_2185
  let v1839 : BitVec 32 := Scalar.addi c0_i32_2186 v1838
  v1839.toNat
def k0_dev51 (d0 : Dev nD) : Nat :=
  let c0_i32_2210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2203 : BitVec 32 := 4#32
  let v1850 : BitVec 32 := Scalar.xori v5 c4_i32_2203
  let c1_i32_2204 : BitVec 32 := 1#32
  let v1851 : BitVec 32 := Scalar.shrsi v1850 c1_i32_2204
  let c1_i32_2205 : BitVec 32 := 1#32
  let v1852 : BitVec 32 := Scalar.andi v1851 c1_i32_2205
  let v1853 : BitVec 32 := Scalar.xori v1850 v1852
  let c1_i32_2209 : BitVec 32 := 1#32
  let v1856 : BitVec 32 := Scalar.muli v1853 c1_i32_2209
  let v1857 : BitVec 32 := Scalar.addi c0_i32_2210 v1856
  v1857.toNat
def k0_dev52 (d0 : Dev nD) : Nat :=
  let c0_i32_2255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2243 : BitVec 32 := 1#32
  let v1882 : BitVec 32 := Scalar.xori v5 c1_i32_2243
  let c1_i32_2244 : BitVec 32 := 1#32
  let v1883 : BitVec 32 := Scalar.shrsi v1882 c1_i32_2244
  let c1_i32_2245 : BitVec 32 := 1#32
  let v1884 : BitVec 32 := Scalar.andi v1883 c1_i32_2245
  let v1885 : BitVec 32 := Scalar.xori v1882 v1884
  let c1_i32_2254 : BitVec 32 := 1#32
  let v1886 : BitVec 32 := Scalar.muli v1885 c1_i32_2254
  let v1887 : BitVec 32 := Scalar.addi c0_i32_2255 v1886
  v1887.toNat
def k0_dev53 (d0 : Dev nD) : Nat :=
  let c0_i32_2304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2292 : BitVec 32 := 2#32
  let v1920 : BitVec 32 := Scalar.xori v5 c2_i32_2292
  let c1_i32_2293 : BitVec 32 := 1#32
  let v1921 : BitVec 32 := Scalar.shrsi v1920 c1_i32_2293
  let c1_i32_2294 : BitVec 32 := 1#32
  let v1922 : BitVec 32 := Scalar.andi v1921 c1_i32_2294
  let v1923 : BitVec 32 := Scalar.xori v1920 v1922
  let c1_i32_2303 : BitVec 32 := 1#32
  let v1924 : BitVec 32 := Scalar.muli v1923 c1_i32_2303
  let v1925 : BitVec 32 := Scalar.addi c0_i32_2304 v1924
  v1925.toNat
def k0_dev54 (d0 : Dev nD) : Nat :=
  let c0_i32_2353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2341 : BitVec 32 := 4#32
  let v1958 : BitVec 32 := Scalar.xori v5 c4_i32_2341
  let c1_i32_2342 : BitVec 32 := 1#32
  let v1959 : BitVec 32 := Scalar.shrsi v1958 c1_i32_2342
  let c1_i32_2343 : BitVec 32 := 1#32
  let v1960 : BitVec 32 := Scalar.andi v1959 c1_i32_2343
  let v1961 : BitVec 32 := Scalar.xori v1958 v1960
  let c1_i32_2352 : BitVec 32 := 1#32
  let v1962 : BitVec 32 := Scalar.muli v1961 c1_i32_2352
  let v1963 : BitVec 32 := Scalar.addi c0_i32_2353 v1962
  v1963.toNat
def k0_dev55 (d0 : Dev nD) : Nat :=
  let c0_i32_2402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2390 : BitVec 32 := 1#32
  let v1996 : BitVec 32 := Scalar.xori v5 c1_i32_2390
  let c1_i32_2391 : BitVec 32 := 1#32
  let v1997 : BitVec 32 := Scalar.shrsi v1996 c1_i32_2391
  let c1_i32_2392 : BitVec 32 := 1#32
  let v1998 : BitVec 32 := Scalar.andi v1997 c1_i32_2392
  let v1999 : BitVec 32 := Scalar.xori v1996 v1998
  let c1_i32_2401 : BitVec 32 := 1#32
  let v2000 : BitVec 32 := Scalar.muli v1999 c1_i32_2401
  let v2001 : BitVec 32 := Scalar.addi c0_i32_2402 v2000
  v2001.toNat
def k0_dev56 (d0 : Dev nD) : Nat :=
  let c0_i32_2451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2439 : BitVec 32 := 2#32
  let v2034 : BitVec 32 := Scalar.xori v5 c2_i32_2439
  let c1_i32_2440 : BitVec 32 := 1#32
  let v2035 : BitVec 32 := Scalar.shrsi v2034 c1_i32_2440
  let c1_i32_2441 : BitVec 32 := 1#32
  let v2036 : BitVec 32 := Scalar.andi v2035 c1_i32_2441
  let v2037 : BitVec 32 := Scalar.xori v2034 v2036
  let c1_i32_2450 : BitVec 32 := 1#32
  let v2038 : BitVec 32 := Scalar.muli v2037 c1_i32_2450
  let v2039 : BitVec 32 := Scalar.addi c0_i32_2451 v2038
  v2039.toNat
def k0_dev57 (d0 : Dev nD) : Nat :=
  let c0_i32_2500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2488 : BitVec 32 := 4#32
  let v2072 : BitVec 32 := Scalar.xori v5 c4_i32_2488
  let c1_i32_2489 : BitVec 32 := 1#32
  let v2073 : BitVec 32 := Scalar.shrsi v2072 c1_i32_2489
  let c1_i32_2490 : BitVec 32 := 1#32
  let v2074 : BitVec 32 := Scalar.andi v2073 c1_i32_2490
  let v2075 : BitVec 32 := Scalar.xori v2072 v2074
  let c1_i32_2499 : BitVec 32 := 1#32
  let v2076 : BitVec 32 := Scalar.muli v2075 c1_i32_2499
  let v2077 : BitVec 32 := Scalar.addi c0_i32_2500 v2076
  v2077.toNat
def k0_dev58 (d0 : Dev nD) : Nat :=
  let c0_i32_2627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2620 : BitVec 32 := 2#32
  let v2189 : BitVec 32 := Scalar.xori v5 c2_i32_2620
  let c1_i32_2621 : BitVec 32 := 1#32
  let v2190 : BitVec 32 := Scalar.shrsi v2189 c1_i32_2621
  let c1_i32_2622 : BitVec 32 := 1#32
  let v2191 : BitVec 32 := Scalar.andi v2190 c1_i32_2622
  let v2192 : BitVec 32 := Scalar.xori v2189 v2191
  let c1_i32_2626 : BitVec 32 := 1#32
  let v2195 : BitVec 32 := Scalar.muli v2192 c1_i32_2626
  let v2196 : BitVec 32 := Scalar.addi c0_i32_2627 v2195
  v2196.toNat
def k0_dev59 (d0 : Dev nD) : Nat :=
  let c0_i32_2651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2644 : BitVec 32 := 4#32
  let v2207 : BitVec 32 := Scalar.xori v5 c4_i32_2644
  let c1_i32_2645 : BitVec 32 := 1#32
  let v2208 : BitVec 32 := Scalar.shrsi v2207 c1_i32_2645
  let c1_i32_2646 : BitVec 32 := 1#32
  let v2209 : BitVec 32 := Scalar.andi v2208 c1_i32_2646
  let v2210 : BitVec 32 := Scalar.xori v2207 v2209
  let c1_i32_2650 : BitVec 32 := 1#32
  let v2213 : BitVec 32 := Scalar.muli v2210 c1_i32_2650
  let v2214 : BitVec 32 := Scalar.addi c0_i32_2651 v2213
  v2214.toNat
def k0_dev60 (d0 : Dev nD) : Nat :=
  let c0_i32_2675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2668 : BitVec 32 := 1#32
  let v2225 : BitVec 32 := Scalar.xori v5 c1_i32_2668
  let c1_i32_2669 : BitVec 32 := 1#32
  let v2226 : BitVec 32 := Scalar.shrsi v2225 c1_i32_2669
  let c1_i32_2670 : BitVec 32 := 1#32
  let v2227 : BitVec 32 := Scalar.andi v2226 c1_i32_2670
  let v2228 : BitVec 32 := Scalar.xori v2225 v2227
  let c1_i32_2674 : BitVec 32 := 1#32
  let v2231 : BitVec 32 := Scalar.muli v2228 c1_i32_2674
  let v2232 : BitVec 32 := Scalar.addi c0_i32_2675 v2231
  v2232.toNat
def k0_dev61 (d0 : Dev nD) : Nat :=
  let c0_i32_2699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2692 : BitVec 32 := 2#32
  let v2243 : BitVec 32 := Scalar.xori v5 c2_i32_2692
  let c1_i32_2693 : BitVec 32 := 1#32
  let v2244 : BitVec 32 := Scalar.shrsi v2243 c1_i32_2693
  let c1_i32_2694 : BitVec 32 := 1#32
  let v2245 : BitVec 32 := Scalar.andi v2244 c1_i32_2694
  let v2246 : BitVec 32 := Scalar.xori v2243 v2245
  let c1_i32_2698 : BitVec 32 := 1#32
  let v2249 : BitVec 32 := Scalar.muli v2246 c1_i32_2698
  let v2250 : BitVec 32 := Scalar.addi c0_i32_2699 v2249
  v2250.toNat
def k0_dev62 (d0 : Dev nD) : Nat :=
  let c0_i32_2723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2716 : BitVec 32 := 4#32
  let v2261 : BitVec 32 := Scalar.xori v5 c4_i32_2716
  let c1_i32_2717 : BitVec 32 := 1#32
  let v2262 : BitVec 32 := Scalar.shrsi v2261 c1_i32_2717
  let c1_i32_2718 : BitVec 32 := 1#32
  let v2263 : BitVec 32 := Scalar.andi v2262 c1_i32_2718
  let v2264 : BitVec 32 := Scalar.xori v2261 v2263
  let c1_i32_2722 : BitVec 32 := 1#32
  let v2267 : BitVec 32 := Scalar.muli v2264 c1_i32_2722
  let v2268 : BitVec 32 := Scalar.addi c0_i32_2723 v2267
  v2268.toNat
def k0_dev63 (d0 : Dev nD) : Nat :=
  let c0_i32_2747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2740 : BitVec 32 := 1#32
  let v2279 : BitVec 32 := Scalar.xori v5 c1_i32_2740
  let c1_i32_2741 : BitVec 32 := 1#32
  let v2280 : BitVec 32 := Scalar.shrsi v2279 c1_i32_2741
  let c1_i32_2742 : BitVec 32 := 1#32
  let v2281 : BitVec 32 := Scalar.andi v2280 c1_i32_2742
  let v2282 : BitVec 32 := Scalar.xori v2279 v2281
  let c1_i32_2746 : BitVec 32 := 1#32
  let v2285 : BitVec 32 := Scalar.muli v2282 c1_i32_2746
  let v2286 : BitVec 32 := Scalar.addi c0_i32_2747 v2285
  v2286.toNat
def k0_dev64 (d0 : Dev nD) : Nat :=
  let c0_i32_2792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2780 : BitVec 32 := 2#32
  let v2311 : BitVec 32 := Scalar.xori v5 c2_i32_2780
  let c1_i32_2781 : BitVec 32 := 1#32
  let v2312 : BitVec 32 := Scalar.shrsi v2311 c1_i32_2781
  let c1_i32_2782 : BitVec 32 := 1#32
  let v2313 : BitVec 32 := Scalar.andi v2312 c1_i32_2782
  let v2314 : BitVec 32 := Scalar.xori v2311 v2313
  let c1_i32_2791 : BitVec 32 := 1#32
  let v2315 : BitVec 32 := Scalar.muli v2314 c1_i32_2791
  let v2316 : BitVec 32 := Scalar.addi c0_i32_2792 v2315
  v2316.toNat
def k0_dev65 (d0 : Dev nD) : Nat :=
  let c0_i32_2841 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2829 : BitVec 32 := 4#32
  let v2349 : BitVec 32 := Scalar.xori v5 c4_i32_2829
  let c1_i32_2830 : BitVec 32 := 1#32
  let v2350 : BitVec 32 := Scalar.shrsi v2349 c1_i32_2830
  let c1_i32_2831 : BitVec 32 := 1#32
  let v2351 : BitVec 32 := Scalar.andi v2350 c1_i32_2831
  let v2352 : BitVec 32 := Scalar.xori v2349 v2351
  let c1_i32_2840 : BitVec 32 := 1#32
  let v2353 : BitVec 32 := Scalar.muli v2352 c1_i32_2840
  let v2354 : BitVec 32 := Scalar.addi c0_i32_2841 v2353
  v2354.toNat
def k0_dev66 (d0 : Dev nD) : Nat :=
  let c0_i32_2890 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2878 : BitVec 32 := 1#32
  let v2387 : BitVec 32 := Scalar.xori v5 c1_i32_2878
  let c1_i32_2879 : BitVec 32 := 1#32
  let v2388 : BitVec 32 := Scalar.shrsi v2387 c1_i32_2879
  let c1_i32_2880 : BitVec 32 := 1#32
  let v2389 : BitVec 32 := Scalar.andi v2388 c1_i32_2880
  let v2390 : BitVec 32 := Scalar.xori v2387 v2389
  let c1_i32_2889 : BitVec 32 := 1#32
  let v2391 : BitVec 32 := Scalar.muli v2390 c1_i32_2889
  let v2392 : BitVec 32 := Scalar.addi c0_i32_2890 v2391
  v2392.toNat
def k0_dev67 (d0 : Dev nD) : Nat :=
  let c0_i32_2939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2927 : BitVec 32 := 2#32
  let v2425 : BitVec 32 := Scalar.xori v5 c2_i32_2927
  let c1_i32_2928 : BitVec 32 := 1#32
  let v2426 : BitVec 32 := Scalar.shrsi v2425 c1_i32_2928
  let c1_i32_2929 : BitVec 32 := 1#32
  let v2427 : BitVec 32 := Scalar.andi v2426 c1_i32_2929
  let v2428 : BitVec 32 := Scalar.xori v2425 v2427
  let c1_i32_2938 : BitVec 32 := 1#32
  let v2429 : BitVec 32 := Scalar.muli v2428 c1_i32_2938
  let v2430 : BitVec 32 := Scalar.addi c0_i32_2939 v2429
  v2430.toNat
def k0_dev68 (d0 : Dev nD) : Nat :=
  let c0_i32_2988 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2976 : BitVec 32 := 4#32
  let v2463 : BitVec 32 := Scalar.xori v5 c4_i32_2976
  let c1_i32_2977 : BitVec 32 := 1#32
  let v2464 : BitVec 32 := Scalar.shrsi v2463 c1_i32_2977
  let c1_i32_2978 : BitVec 32 := 1#32
  let v2465 : BitVec 32 := Scalar.andi v2464 c1_i32_2978
  let v2466 : BitVec 32 := Scalar.xori v2463 v2465
  let c1_i32_2987 : BitVec 32 := 1#32
  let v2467 : BitVec 32 := Scalar.muli v2466 c1_i32_2987
  let v2468 : BitVec 32 := Scalar.addi c0_i32_2988 v2467
  v2468.toNat
def k0_dev69 (d0 : Dev nD) : Nat :=
  let c0_i32_3037 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3025 : BitVec 32 := 1#32
  let v2501 : BitVec 32 := Scalar.xori v5 c1_i32_3025
  let c1_i32_3026 : BitVec 32 := 1#32
  let v2502 : BitVec 32 := Scalar.shrsi v2501 c1_i32_3026
  let c1_i32_3027 : BitVec 32 := 1#32
  let v2503 : BitVec 32 := Scalar.andi v2502 c1_i32_3027
  let v2504 : BitVec 32 := Scalar.xori v2501 v2503
  let c1_i32_3036 : BitVec 32 := 1#32
  let v2505 : BitVec 32 := Scalar.muli v2504 c1_i32_3036
  let v2506 : BitVec 32 := Scalar.addi c0_i32_3037 v2505
  v2506.toNat
def k0_dev70 (d0 : Dev nD) : Nat :=
  let c0_i32_3164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3157 : BitVec 32 := 1#32
  let v2618 : BitVec 32 := Scalar.xori v5 c1_i32_3157
  let c1_i32_3158 : BitVec 32 := 1#32
  let v2619 : BitVec 32 := Scalar.shrsi v2618 c1_i32_3158
  let c1_i32_3159 : BitVec 32 := 1#32
  let v2620 : BitVec 32 := Scalar.andi v2619 c1_i32_3159
  let v2621 : BitVec 32 := Scalar.xori v2618 v2620
  let c1_i32_3163 : BitVec 32 := 1#32
  let v2624 : BitVec 32 := Scalar.muli v2621 c1_i32_3163
  let v2625 : BitVec 32 := Scalar.addi c0_i32_3164 v2624
  v2625.toNat
def k0_dev71 (d0 : Dev nD) : Nat :=
  let c0_i32_3188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_3181 : BitVec 32 := 2#32
  let v2636 : BitVec 32 := Scalar.xori v5 c2_i32_3181
  let c1_i32_3182 : BitVec 32 := 1#32
  let v2637 : BitVec 32 := Scalar.shrsi v2636 c1_i32_3182
  let c1_i32_3183 : BitVec 32 := 1#32
  let v2638 : BitVec 32 := Scalar.andi v2637 c1_i32_3183
  let v2639 : BitVec 32 := Scalar.xori v2636 v2638
  let c1_i32_3187 : BitVec 32 := 1#32
  let v2642 : BitVec 32 := Scalar.muli v2639 c1_i32_3187
  let v2643 : BitVec 32 := Scalar.addi c0_i32_3188 v2642
  v2643.toNat
def k0_dev72 (d0 : Dev nD) : Nat :=
  let c0_i32_3212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_3205 : BitVec 32 := 4#32
  let v2654 : BitVec 32 := Scalar.xori v5 c4_i32_3205
  let c1_i32_3206 : BitVec 32 := 1#32
  let v2655 : BitVec 32 := Scalar.shrsi v2654 c1_i32_3206
  let c1_i32_3207 : BitVec 32 := 1#32
  let v2656 : BitVec 32 := Scalar.andi v2655 c1_i32_3207
  let v2657 : BitVec 32 := Scalar.xori v2654 v2656
  let c1_i32_3211 : BitVec 32 := 1#32
  let v2660 : BitVec 32 := Scalar.muli v2657 c1_i32_3211
  let v2661 : BitVec 32 := Scalar.addi c0_i32_3212 v2660
  v2661.toNat
def k0_dev73 (d0 : Dev nD) : Nat :=
  let c0_i32_3236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3229 : BitVec 32 := 1#32
  let v2672 : BitVec 32 := Scalar.xori v5 c1_i32_3229
  let c1_i32_3230 : BitVec 32 := 1#32
  let v2673 : BitVec 32 := Scalar.shrsi v2672 c1_i32_3230
  let c1_i32_3231 : BitVec 32 := 1#32
  let v2674 : BitVec 32 := Scalar.andi v2673 c1_i32_3231
  let v2675 : BitVec 32 := Scalar.xori v2672 v2674
  let c1_i32_3235 : BitVec 32 := 1#32
  let v2678 : BitVec 32 := Scalar.muli v2675 c1_i32_3235
  let v2679 : BitVec 32 := Scalar.addi c0_i32_3236 v2678
  v2679.toNat
def k0_dev74 (d0 : Dev nD) : Nat :=
  let c0_i32_3260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_3253 : BitVec 32 := 2#32
  let v2690 : BitVec 32 := Scalar.xori v5 c2_i32_3253
  let c1_i32_3254 : BitVec 32 := 1#32
  let v2691 : BitVec 32 := Scalar.shrsi v2690 c1_i32_3254
  let c1_i32_3255 : BitVec 32 := 1#32
  let v2692 : BitVec 32 := Scalar.andi v2691 c1_i32_3255
  let v2693 : BitVec 32 := Scalar.xori v2690 v2692
  let c1_i32_3259 : BitVec 32 := 1#32
  let v2696 : BitVec 32 := Scalar.muli v2693 c1_i32_3259
  let v2697 : BitVec 32 := Scalar.addi c0_i32_3260 v2696
  v2697.toNat
def k0_dev75 (d0 : Dev nD) : Nat :=
  let c0_i32_3284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_3277 : BitVec 32 := 4#32
  let v2708 : BitVec 32 := Scalar.xori v5 c4_i32_3277
  let c1_i32_3278 : BitVec 32 := 1#32
  let v2709 : BitVec 32 := Scalar.shrsi v2708 c1_i32_3278
  let c1_i32_3279 : BitVec 32 := 1#32
  let v2710 : BitVec 32 := Scalar.andi v2709 c1_i32_3279
  let v2711 : BitVec 32 := Scalar.xori v2708 v2710
  let c1_i32_3283 : BitVec 32 := 1#32
  let v2714 : BitVec 32 := Scalar.muli v2711 c1_i32_3283
  let v2715 : BitVec 32 := Scalar.addi c0_i32_3284 v2714
  v2715.toNat
def k0_dev76 (d0 : Dev nD) : Nat :=
  let c0_i32_3329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3317 : BitVec 32 := 1#32
  let v2740 : BitVec 32 := Scalar.xori v5 c1_i32_3317
  let c1_i32_3318 : BitVec 32 := 1#32
  let v2741 : BitVec 32 := Scalar.shrsi v2740 c1_i32_3318
  let c1_i32_3319 : BitVec 32 := 1#32
  let v2742 : BitVec 32 := Scalar.andi v2741 c1_i32_3319
  let v2743 : BitVec 32 := Scalar.xori v2740 v2742
  let c1_i32_3328 : BitVec 32 := 1#32
  let v2744 : BitVec 32 := Scalar.muli v2743 c1_i32_3328
  let v2745 : BitVec 32 := Scalar.addi c0_i32_3329 v2744
  v2745.toNat
def k0_dev77 (d0 : Dev nD) : Nat :=
  let c0_i32_3378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_3366 : BitVec 32 := 2#32
  let v2778 : BitVec 32 := Scalar.xori v5 c2_i32_3366
  let c1_i32_3367 : BitVec 32 := 1#32
  let v2779 : BitVec 32 := Scalar.shrsi v2778 c1_i32_3367
  let c1_i32_3368 : BitVec 32 := 1#32
  let v2780 : BitVec 32 := Scalar.andi v2779 c1_i32_3368
  let v2781 : BitVec 32 := Scalar.xori v2778 v2780
  let c1_i32_3377 : BitVec 32 := 1#32
  let v2782 : BitVec 32 := Scalar.muli v2781 c1_i32_3377
  let v2783 : BitVec 32 := Scalar.addi c0_i32_3378 v2782
  v2783.toNat
def k0_dev78 (d0 : Dev nD) : Nat :=
  let c0_i32_3427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_3415 : BitVec 32 := 4#32
  let v2816 : BitVec 32 := Scalar.xori v5 c4_i32_3415
  let c1_i32_3416 : BitVec 32 := 1#32
  let v2817 : BitVec 32 := Scalar.shrsi v2816 c1_i32_3416
  let c1_i32_3417 : BitVec 32 := 1#32
  let v2818 : BitVec 32 := Scalar.andi v2817 c1_i32_3417
  let v2819 : BitVec 32 := Scalar.xori v2816 v2818
  let c1_i32_3426 : BitVec 32 := 1#32
  let v2820 : BitVec 32 := Scalar.muli v2819 c1_i32_3426
  let v2821 : BitVec 32 := Scalar.addi c0_i32_3427 v2820
  v2821.toNat
def k0_dev79 (d0 : Dev nD) : Nat :=
  let c0_i32_3476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3464 : BitVec 32 := 1#32
  let v2854 : BitVec 32 := Scalar.xori v5 c1_i32_3464
  let c1_i32_3465 : BitVec 32 := 1#32
  let v2855 : BitVec 32 := Scalar.shrsi v2854 c1_i32_3465
  let c1_i32_3466 : BitVec 32 := 1#32
  let v2856 : BitVec 32 := Scalar.andi v2855 c1_i32_3466
  let v2857 : BitVec 32 := Scalar.xori v2854 v2856
  let c1_i32_3475 : BitVec 32 := 1#32
  let v2858 : BitVec 32 := Scalar.muli v2857 c1_i32_3475
  let v2859 : BitVec 32 := Scalar.addi c0_i32_3476 v2858
  v2859.toNat
def k0_dev80 (d0 : Dev nD) : Nat :=
  let c0_i32_3525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_3513 : BitVec 32 := 2#32
  let v2892 : BitVec 32 := Scalar.xori v5 c2_i32_3513
  let c1_i32_3514 : BitVec 32 := 1#32
  let v2893 : BitVec 32 := Scalar.shrsi v2892 c1_i32_3514
  let c1_i32_3515 : BitVec 32 := 1#32
  let v2894 : BitVec 32 := Scalar.andi v2893 c1_i32_3515
  let v2895 : BitVec 32 := Scalar.xori v2892 v2894
  let c1_i32_3524 : BitVec 32 := 1#32
  let v2896 : BitVec 32 := Scalar.muli v2895 c1_i32_3524
  let v2897 : BitVec 32 := Scalar.addi c0_i32_3525 v2896
  v2897.toNat
def k0_dev81 (d0 : Dev nD) : Nat :=
  let c0_i32_3574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_3562 : BitVec 32 := 4#32
  let v2930 : BitVec 32 := Scalar.xori v5 c4_i32_3562
  let c1_i32_3563 : BitVec 32 := 1#32
  let v2931 : BitVec 32 := Scalar.shrsi v2930 c1_i32_3563
  let c1_i32_3564 : BitVec 32 := 1#32
  let v2932 : BitVec 32 := Scalar.andi v2931 c1_i32_3564
  let v2933 : BitVec 32 := Scalar.xori v2930 v2932
  let c1_i32_3573 : BitVec 32 := 1#32
  let v2934 : BitVec 32 := Scalar.muli v2933 c1_i32_3573
  let v2935 : BitVec 32 := Scalar.addi c0_i32_3574 v2934
  v2935.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384x4096, .f32⟩
  | .hbm, ⟨2, _⟩ => ⟨S4096x4096, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Form.lean ====
/-
# The kernel as a composition of few operations

The printed kernel is a long straight line of memory operations.  It is the same small number of operations over and over, at
six column streams and seven steps.  This module writes those operations once, each at a stream, a slot or a step that is a
variable, composes them, and states that the composition IS the printed body (`body_eq`).

Each operation takes the program that follows it as its last argument.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

noncomputable section

namespace Cert.RS

open Cert.KernelIdeal Cert.KernelIdeal.Gen
open Idealize.ShloMosaic Idealize.ShloMosaic.TcCoe Idealize.SL Idealize.SL.Sem

variable {F : FTy → Type} [FloatOps F]

/-- The programs of one device of this kernel. -/
abbrev Pg (F : FTy → Type) [FloatOps F] : Type 1 := Prog (TpuEff nD τ sig (Elt F) Λ₀ .tc) PUnit

/-! ## Streams, steps, neighbours -/

/-- The system (of three) a stream belongs to. -/
def sysOf (si : Fin 6) : Fin 3 := ![0, 1, 2, 0, 1, 2] si
/-- The first column of a stream. -/
def colOf (si : Fin 6) : ℕ := ![0, 1408, 2816, 704, 2112, 3456] si
/-- The number of columns of a stream. -/
def wid (si : Fin 6) : ℕ := ![704, 704, 640, 704, 704, 640] si

/-- The mask of the neighbour a system exchanges with at a step. -/
def eTab (y : Fin 3) (t : ℕ) : Fin 8 := ((![[1, 2, 1, 4, 1, 2, 1], [2, 4, 2, 1, 2, 4, 2], [4, 1, 4, 2, 4, 1, 4]] : Fin 3 → List (Fin 8)) y).getD t 0
/-- The mask of the row chunk a system handles at a step. -/
def mTab (y : Fin 3) (t : ℕ) : Fin 8 :=
  ((![[4, 5, 7, 6, 2, 3, 1, 0], [1, 3, 7, 5, 4, 6, 2, 0], [2, 6, 7, 3, 1, 5, 4, 0]] : Fin 3 → List (Fin 8)) y).getD t 0

/-- The device at a mask from `d`, as the kernel computes it. -/
def devOf (d : Dev nD) (x : BitVec 32) : ℕ :=
  let v5 : BitVec 32 := Scalar.xori (Scalar.remsi (Scalar.divsi (Dev.word d) 1#32) 8#32) (Scalar.andi (Scalar.shrsi (Scalar.remsi (Scalar.divsi (Dev.word d) 1#32) 8#32) 1#32) 1#32)
  let v7 : BitVec 32 := Scalar.xori v5 x
  let v10 : BitVec 32 := Scalar.xori v7 (Scalar.andi (Scalar.shrsi v7 1#32) 1#32)
  (Scalar.addi 0#32 (Scalar.muli v10 1#32)).toNat

theorem devOf_lt (d : Dev nD) (e : Fin 8) : devOf d (BitVec.ofNat 32 e.val) < nD := by
  revert d e; decide +kernel

/-- The device at mask `e` from `d`. -/
def nb (d : Dev nD) (e : Fin 8) : Dev nD := ⟨devOf d (BitVec.ofNat 32 e.val), devOf_lt d e⟩

/-! ## Views -/

/-- The staging slot of a system's row chunk. -/
theorem aInb (y : Fin 3) : ∀ a, (![y.val, 0, 0] : Fin 3 → ℕ) a + S1x512x2048.size a ≤ S3x512x2048.size a := by revert y; decide
abbrev aRect (y : Fin 3) : Rect S3x512x2048 := Rect.unit (s := S3x512x2048) ![y.val, 0, 0] S1x512x2048.size (aInb y)
abbrev aSlot (y : Fin 3) : Memref sig .tc .vmem S512x2048 .f32 :=
  ((Memref.whole cc0_scratch2).slice (aRect y) (fun _ => rfl)).squeeze S512x2048 squeezes_S1x512x2048_S512x2048
/-- A row chunk of the device's own block of the left operand. -/
abbrev aChunk (d : Dev nD) (e : Fin 8) : Memref sig .tc .hbm S512x2048 .f32 :=
  (Memref.whole main_arg0).slice (Rect.unit (s := S4096x2048) (k0_off1 d (BitVec.ofNat 32 e.val)) S512x2048.size (k0_off1_inb d e)) (fun _ => rfl)
/-- The first row chunk. -/
abbrev aZero : Memref sig .tc .hbm S512x2048 .f32 :=
  (Memref.whole main_arg0).slice (Rect.unit (s := S4096x2048) ![0, 0] S512x2048.size inb_S4096x2048_S512x2048_0_0) (fun _ => rfl)

theorem lInb (i : Fin 4) : ∀ a, (![i.val] : Fin 1 → ℕ) a + S1.size a ≤ S4.size a := by revert i; decide
/-- The semaphores of the local copies: one per system, and the right operand's. -/
@[irreducible] def lSem (i : Fin 4) : DmaSem sig := ((cc0_scratch5.slice (Rect.unit (s := S4) ![i.val] S1.size (lInb i))).squeeze S_ squeezes_S1_S_).sem

theorem qInb (si : Fin 6) (k : Fin 2) : ∀ a, (![si.val, k.val] : Fin 2 → ℕ) a + S1x1.size a ≤ S6x2.size a := by revert si k; decide
/-- The semaphores of a stream's slot: of the send out of it, of the landing in it, of its release. -/
@[irreducible] def sSem (si : Fin 6) (k : Fin 2) : DmaSem sig := ((cc0_scratch6.slice (Rect.unit (s := S6x2) ![si.val, k.val] S1x1.size (qInb si k))).squeeze S_ squeezes_S1x1_S_).sem
@[irreducible] def rSem (si : Fin 6) (k : Fin 2) : DmaSem sig := ((cc0_scratch7.slice (Rect.unit (s := S6x2) ![si.val, k.val] S1x1.size (qInb si k))).squeeze S_ squeezes_S1x1_S_).sem
@[irreducible] def ySem (si : Fin 6) (k : Fin 2) : Sem sig := ((cc0_scratch8.slice (Rect.unit (s := S6x2) ![si.val, k.val] S1x1.size (qInb si k))).squeeze S_ squeezes_S1x1_S_).sem
@[irreducible] def bSem : Sem sig := (SemArray.scalar (sig.barrier 0 rfl) : Sems sig S_).sem

theorem cInb (si : Fin 6) (k : Fin 2) : ∀ a, (![si.val, k.val, 0, 0] : Fin 4 → ℕ) a + S1x1x512x704.size a ≤ S6x2x512x704.size a := by revert si k; decide
/-- A stream's communication slot, whole. -/
abbrev cSlot (si : Fin 6) (k : Fin 2) : Memref sig .tc .vmem S512x704 .bf16 :=
  ((Memref.whole cc0_scratch3).slice (Rect.unit (s := S6x2x512x704) ![si.val, k.val, 0, 0] S1x1x512x704.size (cInb si k)) (fun _ => rfl)).squeeze S512x704 squeezes_S1x1x512x704_S512x704

abbrev SC (w : ℕ) : Shape := ⟨4, ![1, 1, 512, w]⟩
abbrev SP (w : ℕ) : Shape := ⟨3, ![1, 512, w]⟩
abbrev SD (w : ℕ) : Shape := ⟨2, ![512, w]⟩
abbrev SB (w : ℕ) : Shape := ⟨2, ![2048, w]⟩

theorem uInb (si : Fin 6) (k : Fin 2) : ∀ a, (![si.val, k.val, 0, 0] : Fin 4 → ℕ) a + (SC (wid si)).size a ≤ S6x2x512x704.size a := by revert si k; decide
/-- The columns of a slot its stream uses. -/
abbrev uRect (si : Fin 6) (k : Fin 2) : Rect S6x2x512x704 := Rect.unit (s := S6x2x512x704) ![si.val, k.val, 0, 0] (SC (wid si)).size (uInb si k)
theorem pInb (si : Fin 6) : ∀ a, (![si.val, 0, 0] : Fin 3 → ℕ) a + (SP (wid si)).size a ≤ S6x512x704.size a := by revert si; decide
abbrev pRect (si : Fin 6) : Rect S6x512x704 := Rect.unit (s := S6x512x704) ![si.val, 0, 0] (SP (wid si)).size (pInb si)
theorem wInb (si : Fin 6) : ∀ a, (![0, colOf si] : Fin 2 → ℕ) a + (SB (wid si)).size a ≤ S2048x4096.size a := by revert si; decide
abbrev wRect (si : Fin 6) : Rect S2048x4096 := Rect.unit (s := S2048x4096) ![0, colOf si] (SB (wid si)).size (wInb si)
theorem oInb (si : Fin 6) : ∀ a, (![0, colOf si] : Fin 2 → ℕ) a + (SD (wid si)).size a ≤ S512x4096.size a := by revert si; decide
abbrev oRect (si : Fin 6) : Rect S512x4096 := Rect.unit (s := S512x4096) ![0, colOf si] (SD (wid si)).size (oInb si)

/-- The pieces the right operand is brought in by: first column and width. -/
def pcol (j : Fin 9) : ℕ := ![0, 512, 1024, 1408, 1920, 2432, 2816, 3328, 3840] j
def pwid (j : Fin 9) : ℕ := ![512, 512, 384, 512, 512, 384, 512, 512, 256] j
theorem bInb (j : Fin 9) : ∀ a, (![0, pcol j] : Fin 2 → ℕ) a + (SB (pwid j)).size a ≤ S2048x4096.size a := by revert j; decide
abbrev bRect (j : Fin 9) : Rect S2048x4096 := Rect.unit (s := S2048x4096) ![0, pcol j] (SB (pwid j)).size (bInb j)
theorem gInb (j : Fin 9) : ∀ a, (![0, 0] : Fin 2 → ℕ) a + (SB (pwid j)).size a ≤ S2048x512.size a := by revert j; decide
abbrev gRect (j : Fin 9) : Rect S2048x512 := Rect.unit (s := S2048x512) ![0, 0] (SB (pwid j)).size (gInb j)

/-! ## The layout facts, at a variable stream -/

theorem SC_pos (si : Fin 6) : 0 < (SC (wid si)).numel := by revert si; decide
theorem SP_pos (si : Fin 6) : 0 < (SP (wid si)).numel := by revert si; decide
theorem SB_pos (si : Fin 6) : 0 < (SB (wid si)).numel := by revert si; decide
theorem SD_pos (si : Fin 6) : 0 < (SD (wid si)).numel := by revert si; decide
theorem SG_pos (j : Fin 9) : 0 < (SB (pwid j)).numel := by revert j; decide

theorem cWords (si : Fin 6) (k : Fin 2) :
    (Rect.unit (s := S6x2x512x704) ![si.val, k.val, 0, 0] S1x1x512x704.size (cInb si k)).WholeWords (EltTy.packing .bf16) := by
  revert si k; decide +kernel
theorem uPacked (si : Fin 6) (k : Fin 2) : (uRect si k).PackedRows (EltTy.packing .bf16) := by revert si k; decide +kernel
theorem bPacked (j : Fin 9) : (bRect j).PackedRows (EltTy.packing .bf16) := by revert j; decide +kernel

theorem cExact (si : Fin 6) (k : Fin 2) : (cSlot si k).view.WordExact :=
  ((Memref.isWhole_whole cc0_scratch3).wordExact_slice rfl _ (cWords si k)).reshape _ _

theorem dotWf (si : Fin 6) : DotDims.WF S512x2048 (SB (wid si)) (SD (wid si)) [1] [0] [0] [1] [] [] := by
  revert si; decide +kernel
def dotD (si : Fin 6) : DotDims S512x2048 (SB (wid si)) (SD (wid si)) where
  lhsContracting := [1]
  rhsContracting := [0]
  lhsNonContracting := [0]
  rhsNonContracting := [1]
  lhsBatch := []
  rhsBatch := []
  wf := dotWf si

theorem castCD (si : Fin 6) : (SC (wid si)).ShapeCasts (SD (wid si)) := by revert si; decide
theorem castDC (si : Fin 6) : (SD (wid si)).ShapeCasts (SC (wid si)) := by revert si; decide
theorem castPD (si : Fin 6) : (SP (wid si)).ShapeCasts (SD (wid si)) := by revert si; decide
theorem castDP (si : Fin 6) : (SD (wid si)).ShapeCasts (SP (wid si)) := by revert si; decide
theorem castBB (j : Fin 9) : (SB (pwid j)).ShapeCasts (SB (pwid j)) := by revert j; decide

/-! ## The values the kernel computes -/

/-- A row chunk times a stream's columns. -/
def dotV (si : Fin 6) (a : Vec F S1x512x2048 .f32) (b : Vec F (SB (wid si)) .bf16) : FVec F (SD (wid si)) .f32 :=
  matmul (dotD si) none (truncf .bf16 (shapeCast S512x2048 a shapeCasts_S1x512x2048_S512x2048) bitsLt_bf16_f32) b (constant (SD (wid si)) .f32 0x00000000#32)
/-- What arrived plus the local product. -/
def addV (si : Fin 6) (x : Vec F (SC (wid si)) .bf16) (p : Vec F (SP (wid si)) .f32) : FVec F (SD (wid si)) .f32 :=
  addf (extf .f32 (shapeCast (SD (wid si)) x (castCD si)) bitsLt_bf16_f32) (shapeCast (SD (wid si)) p (castPD si))
/-- A value as a slot holds it. -/
def slotV (si : Fin 6) (x : FVec F (SD (wid si)) .f32) : FVec F (SC (wid si)) .bf16 :=
  shapeCast (SC (wid si)) (truncf .bf16 x bitsLt_bf16_f32) (castDC si)
def bufV (si : Fin 6) (x : FVec F (SD (wid si)) .f32) : FVec F (SP (wid si)) .f32 := shapeCast (SP (wid si)) x (castDP si)
/-- A piece of the right operand, rounded. -/
def pieceV (j : Fin 9) (x : Vec F (SB (pwid j)) .f32) : FVec F (SB (pwid j)) .bf16 :=
  shapeCast (SB (pwid j)) (truncf .bf16 x bitsLt_bf16_f32) (castBB j)

/-! ## The operations -/

/-- One unit to the barrier of the device at mask `e`. -/
def barSig (d : Dev nD) (e : Fin 8) (k : Pg F) : Pg F := .op (.semSignal (nb d e, .tc) bSem (1#32).toInt) fun _ => k
def barWait (k : Pg F) : Pg F := .op (.semWait bSem (3#32).toInt) fun _ => k
/-- Start the copy of a row chunk. -/
def copyA (d : Dev nD) (y : Fin 3) (e : Fin 8) (k : Pg F) : Pg F :=
  .op (.enqueueDma (aChunk d e) (.here (aSlot y)) (.dma (lSem (y.castLE (by decide)))) (View.wordExact_bits rfl) ((View.wordExact_bits rfl).reshape _ _) ⟨Or.inl rfl, trivial⟩) fun _ => k
/-- Wait for it; the source only gives the size. -/
def waitA (y : Fin 3) (src : Memref sig .tc .hbm S512x2048 .f32) (k : Pg F) : Pg F :=
  .op (.waitDma2 (lSem (y.castLE (by decide))) src (aSlot y) (View.wordExact_bits rfl) ((View.wordExact_bits rfl).reshape _ _)) fun _ => k

/-- Bring in piece `j` of the right operand and store it rounded. -/
def pieceB (j : Fin 9) (k : Pg F) : Pg F :=
  .op (.enqueueDma ((Memref.whole main_arg1).slice (bRect j) (fun _ => rfl)) (.here ((Memref.whole cc0_scratch1).slice (gRect j) (fun _ => rfl))) (.dma (lSem 3))
    (View.wordExact_bits rfl) (View.wordExact_bits rfl) ⟨Or.inl rfl, trivial⟩) fun _ =>
  .op (.waitDma2 (lSem 3) ((Memref.whole main_arg1).slice (bRect j) (fun _ => rfl)) ((Memref.whole cc0_scratch1).slice (gRect j) (fun _ => rfl))
    (View.wordExact_bits rfl) (View.wordExact_bits rfl)) fun _ =>
  .op (.load (Memref.whole cc0_scratch1) (gRect j).toLoadRect (View.loadsAt_vmem (SG_pos j))) fun x =>
  .op (.load (Memref.whole cc0_scratch0) (bRect j).toLoadRect (View.loadsAt_vmem (SG_pos j))) fun _ =>
  .op (.store (Memref.whole cc0_scratch0) (bRect j) (pieceV j x) Finset.univ
    (View.stores_vmem (SG_pos j) ((Memref.isWhole_whole cc0_scratch0).storeExact_slice rfl _ (bPacked j)) (fun _ => rfl)) (.inl rfl)) fun _ => k

/-- The first product of a stream into slot 0. -/
def firstDot (si : Fin 6) (k : Pg F) : Pg F :=
  .op (.load (Memref.whole cc0_scratch2) (aRect (sysOf si)).toLoadRect (View.loadsAt_vmem h_S1x512x2048)) fun a =>
  .op (.load (Memref.whole cc0_scratch0) (wRect si).toLoadRect (View.loadsAt_vmem (SB_pos si))) fun b =>
  .op (.load (Memref.whole cc0_scratch3) (uRect si 0).toLoadRect (View.loadsAt_vmem (SC_pos si))) fun _ =>
  .op (.store (Memref.whole cc0_scratch3) (uRect si 0) (slotV si (dotV si a b)) Finset.univ
    (View.stores_vmem (SC_pos si) ((Memref.isWhole_whole cc0_scratch3).storeExact_slice rfl _ (uPacked si 0)) (fun _ => rfl)) (.inl rfl)) fun _ => k

/-- A step's product of a stream. -/
def dotP (si : Fin 6) (k : Pg F) : Pg F :=
  .op (.load (Memref.whole cc0_scratch2) (aRect (sysOf si)).toLoadRect (View.loadsAt_vmem h_S1x512x2048)) fun a =>
  .op (.load (Memref.whole cc0_scratch0) (wRect si).toLoadRect (View.loadsAt_vmem (SB_pos si))) fun b =>
  .op (.load (Memref.whole cc0_scratch4) (pRect si).toLoadRect (View.loadsAt_vmem (SP_pos si))) fun _ =>
  .op (.store (Memref.whole cc0_scratch4) (pRect si) (bufV si (dotV si a b)) Finset.univ
    (View.stores_vmem_bits_univ (SP_pos si) rfl) (.inl rfl)) fun _ => k

/-- Send slot `s` of a stream into slot `r` of the device at mask `e`. -/
def sendP (d : Dev nD) (si : Fin 6) (s r : Fin 2) (e : Fin 8) (k : Pg F) : Pg F :=
  .op (.enqueueDma (cSlot si s) (.remote (Dev.tc (nb d e)) (cSlot si r) (.dma (sSem si s))) (.dma (rSem si r)) (cExact si s) (cExact si r) ⟨⟨rfl, Or.inl rfl⟩, trivial⟩) fun _ => k
/-- Wait until slot `s` is free again. -/
def waitS (si : Fin 6) (s r : Fin 2) (k : Pg F) : Pg F :=
  .op (.waitDma2 (sSem si s) (cSlot si r) (cSlot si s) (cExact si r) (cExact si s)) fun _ => k
/-- Wait for the landing in slot `r`. -/
def waitR (si : Fin 6) (s r : Fin 2) (k : Pg F) : Pg F :=
  .op (.waitDma2 (rSem si r) (cSlot si s) (cSlot si r) (cExact si s) (cExact si r)) fun _ => k
def rdySig (d : Dev nD) (si : Fin 6) (s : Fin 2) (e : Fin 8) (k : Pg F) : Pg F := .op (.semSignal (nb d e, .tc) (ySem si s) (1#32).toInt) fun _ => k
def rdyWait (si : Fin 6) (s : Fin 2) (k : Pg F) : Pg F := .op (.semWait (ySem si s) (1#32).toInt) fun _ => k
/-- Add the local product to what landed in slot `r`. -/
def addP (si : Fin 6) (r : Fin 2) (k : Pg F) : Pg F :=
  .op (.load (Memref.whole cc0_scratch3) (uRect si r).toLoadRect (View.loadsAt_vmem (SC_pos si))) fun x =>
  .op (.load (Memref.whole cc0_scratch4) (pRect si).toLoadRect (View.loadsAt_vmem (SP_pos si))) fun p =>
  .op (.load (Memref.whole cc0_scratch3) (uRect si r).toLoadRect (View.loadsAt_vmem (SC_pos si))) fun _ =>
  .op (.store (Memref.whole cc0_scratch3) (uRect si r) (slotV si (addV si x p)) Finset.univ
    (View.stores_vmem (SC_pos si) ((Memref.isWhole_whole cc0_scratch3).storeExact_slice rfl _ (uPacked si r)) (fun _ => rfl)) (.inl rfl)) fun _ => k
/-- Add the local product to what landed last, into the result. -/
def outP (si : Fin 6) (r : Fin 2) (k : Pg F) : Pg F :=
  .op (.load (Memref.whole cc0_scratch3) (uRect si r).toLoadRect (View.loadsAt_vmem (SC_pos si))) fun x =>
  .op (.load (Memref.whole cc0_scratch4) (pRect si).toLoadRect (View.loadsAt_vmem (SP_pos si))) fun p =>
  .op (.load (Memref.whole cc0_stg0_0) (oRect si).toLoadRect (View.loadsAt_vmem (SD_pos si))) fun _ =>
  .op (.store (Memref.whole cc0_stg0_0) (oRect si) (addV si x p) Finset.univ (View.stores_vmem_bits_univ (SD_pos si) rfl) (.inl rfl)) fun _ => k

/-! ## The whole -/

/-- The slot of step `t` (`s`) and of the next (`r`). -/
def sl (t : ℕ) : Fin 2 := ⟨t % 2, Nat.mod_lt _ (by decide)⟩

/-- Every stream in turn. -/
def each6 (f : Fin 6 → Pg F → Pg F) (k : Pg F) : Pg F := f 0 (f 1 (f 2 (f 3 (f 4 (f 5 k)))))
def each3 (f : Fin 3 → Pg F → Pg F) (k : Pg F) : Pg F := f 0 (f 1 (f 2 k))

/-- A system's three pieces of the right operand, and the first products and sends of its two streams. -/
def sysP (d : Dev nD) (y : Fin 3) (k : Pg F) : Pg F :=
  pieceB ⟨3 * y.val, by omega⟩ (pieceB ⟨3 * y.val + 1, by omega⟩ (pieceB ⟨3 * y.val + 2, by omega⟩ (waitA y (aChunk d (mTab y 0))
    (firstDot (y.castLE (by decide)) (sendP d (y.castLE (by decide)) 0 1 (eTab y 0)
      (firstDot ⟨y.val + 3, by omega⟩ (sendP d ⟨y.val + 3, by omega⟩ 0 1 (eTab y 0) k)))))))

/-- Wait for the row chunks, multiply. -/
def dotsP (k : Pg F) : Pg F := each3 (fun y => waitA y aZero) (each6 dotP k)

/-- Step `t`, of the first six. -/
def stepP (d : Dev nD) (t : ℕ) (k : Pg F) : Pg F :=
  dotsP (each3 (fun y => copyA d y (mTab y (t + 2)))
    (each6 (fun si k => waitS si (sl t) (sl (t + 1)) (rdySig d si (sl t) (eTab (sysOf si) (t + 1)) k))
      (each6 (fun si k => waitR si (sl t) (sl (t + 1)) (addP si (sl (t + 1)) (rdyWait si (sl t) (sendP d si (sl (t + 1)) (sl t) (eTab (sysOf si) (t + 1)) k)))) k)))

/-- The last step. -/
def lastP (k : Pg F) : Pg F :=
  dotsP (each6 (fun si => waitS si 0 1) (each6 (fun si k => waitR si 0 1 (outP si 1 k)) k))

def bodyD (d : Dev nD) : Pg F :=
  barSig d 1 (barSig d 2 (barSig d 4 (barWait (each3 (fun y => copyA d y (mTab y 0)) (each3 (sysP d) (each3 (fun y => copyA d y (mTab y 1))
    (stepP d 0 (stepP d 1 (stepP d 2 (stepP d 3 (stepP d 4 (stepP d 5 (lastP (.ret ⟨⟩))))))))))))))

/-- The printed body is the composition. -/
theorem body_eq (t : Fin cfg0.N) : bodyAt0 (F := F) t = .op .deviceId fun d => bodyD d := by
  chain_rfl

end Cert.RS
-- ==== Proof.Proto.lean ====
/-
# The protocol

What the eight devices promise one another, as a schedule of rounds on each semaphore.

* The barrier: each of the three neighbours hands over the two slots the first sends go into.
* A local copy: the copied slot with its contents, and the part of the source it read.
* A send: the slot it went out of, back.
* A landing: the slot, holding what the sender computed.
* A release: the neighbour's slot for the next send, and how far that neighbour's own semaphores have come.
-/
module

public import proofs.«01_k».proof.Proof.Form
public import proofs.«01_k».proof.Proof.Gen.KernelIdeal.Launch
public import Idealize.ShloMosaic.Lib.Pipeline.Launch
public import Idealize.ShloMosaic.Lib.Pipeline.Kit
public import Idealize.ShloMosaic.Lib.Pipeline.TalkSites
public import Idealize.ShloMosaic.Lib.Tactic

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F]

abbrev UB : Type := URounds (GSem nD τ sig) (Fin 8)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The semaphores by their part in the protocol -/

inductive CK where
  | bar
  | locA (y : Fin 3)
  | locB
  | snd (si : Fin 6) (k : Fin 2)
  | rcv (si : Fin 6) (k : Fin 2)
  | rdy (si : Fin 6) (k : Fin 2)
  deriving DecidableEq

def csem : CK → SemLoc sig
  | .bar => .reg bSem
  | .locA y => .dma (lSem (y.castLE (by decide)))
  | .locB => .dma (lSem 3)
  | .snd si k => .dma (sSem si k)
  | .rcv si k => .dma (rSem si k)
  | .rdy si k => .reg (ySem si k)

/-- The part a semaphore plays, from its number. -/
def kindOf : SemLoc sig → Option CK
  | .reg i => if h : i.val < 12 then some (.rdy ⟨i.val / 2, by omega⟩ ⟨i.val % 2, by omega⟩) else some .bar
  | .dma i => if i.val = 0 then none
      else if h : i.val < 4 then some (.locA ⟨i.val - 1, by omega⟩)
      else if i.val = 4 then some .locB
      else if h : i.val < 17 then some (.snd ⟨(i.val - 5) / 2, by omega⟩ ⟨(i.val - 5) % 2, by omega⟩)
      else if h : i.val < 29 then some (.rcv ⟨(i.val - 17) / 2, by omega⟩ ⟨(i.val - 17) % 2, by omega⟩) else none

theorem kindOf_csem (k : CK) : kindOf (csem k) = some k := by
  cases k with
  | bar => decide +kernel
  | locA y => revert y; decide +kernel
  | locB => decide +kernel
  | snd si k => revert si k; decide +kernel
  | rcv si k => revert si k; decide +kernel
  | rdy si k => revert si k; decide +kernel

theorem csem_injective : Function.Injective csem := fun a b h => by
  have := congrArg kindOf h
  rw [kindOf_csem, kindOf_csem] at this
  exact Option.some.inj this

abbrev cell (c : Dev nD) (k : CK) : GSem nD τ sig := ((c : Thread nD τ), csem k)

/-! ## Slots and steps -/

theorem sl_two (t : ℕ) : sl (t + 2) = sl t := Fin.ext (by simp only [sl]; omega)
theorem sl_val (t : ℕ) : (sl t).val = t % 2 := rfl
theorem half_two (t : ℕ) : (t + 2) / 2 = t / 2 + 1 := by omega

theorem nb_nb (c : Dev nD) (e : Fin 8) : nb (nb c e) e = c := by revert c e; decide +kernel

/-! ## Contents -/

section Contents

variable (m : (ℓ : Loc nD τ sig) → Buf (Elt F) ℓ)

/-- The row chunk of `c`'s left block at mask `e`, as the staging slot is read. -/
def aVal (c : Dev nD) (e : Fin 8) : Vec F S1x512x2048 .f32 :=
  shapeCast S1x512x2048 ((aChunk c e).view.read (Elt F) (m ((aChunk c e).view.loc (c : Thread nD τ)))) (by decide)
/-- The stream's columns of `c`'s right block, rounded. -/
def bVal (c : Dev nD) (si : Fin 6) : Vec F (SB (wid si)) .bf16 :=
  truncf .bf16 ((Memref.whole main_arg1).view.readAt (Elt F) (wRect si).toLoadRect (m ((c : Thread nD τ).loc main_arg1))) bitsLt_bf16_f32
/-- The local product of a stream at a step (of eight row chunks). -/
def prodV (c : Dev nD) (si : Fin 6) (t : ℕ) : FVec F (SD (wid si)) .f32 := dotV si (aVal m c (mTab (sysOf si) t)) (bVal m c si)

/-- What device `c` sends of a stream at a step. -/
def X (c : Dev nD) (si : Fin 6) : ℕ → Vec F (SC (wid si)) .bf16
  | 0 => slotV si (prodV m c si 0)
  | t + 1 => slotV si (addV si (X (nb c (eTab (sysOf si) t)) si t) (bufV si (prodV m c si (t + 1))))
/-- The stream's columns of `c`'s result. -/
def outV (c : Dev nD) (si : Fin 6) : FVec F (SD (wid si)) .f32 :=
  addV si (X m (nb c (eTab (sysOf si) 6)) si 6) (bufV si (prodV m c si 7))

theorem X_succ (c : Dev nD) (si : Fin 6) (t : ℕ) :
    X m c si (t + 1) = slotV si (addV si (X m (nb c (eTab (sysOf si) t)) si t) (bufV si (prodV m c si (t + 1)))) := by
  rw [X]

/-! ## What is handed over -/

abbrev cM : Memref sig .tc .vmem S6x2x512x704 .bf16 := Memref.whole cc0_scratch3
abbrev aM : Memref sig .tc .vmem S3x512x2048 .f32 := Memref.whole cc0_scratch2
abbrev gM : Memref sig .tc .vmem S2048x512 .f32 := Memref.whole cc0_scratch1
abbrev bM : Memref sig .tc .vmem S2048x4096 .bf16 := Memref.whole cc0_scratch0
abbrev pM : Memref sig .tc .vmem S6x512x704 .f32 := Memref.whole cc0_scratch4
abbrev oM : Memref sig .tc .vmem S512x4096 .f32 := Memref.whole cc0_stg0_0
abbrev gSlot (j : Fin 9) : Memref sig .tc .vmem (SB (pwid j)) .f32 := gM.slice (gRect j) (fun _ => rfl)
abbrev bSrc (j : Fin 9) : Memref sig .tc .hbm (SB (pwid j)) .f32 := (Memref.whole main_arg1).slice (bRect j) (fun _ => rfl)

def slotPts (c : Dev nD) (si : Fin 6) (k : Fin 2) (f : Buf (Elt F) ((cSlot si k).view.loc (c : Thread nD τ))) : sProp 𝕄 :=
  (cSlot si k).view.loc (c : Thread nD τ) ↦[(cSlot si k).view.set]{fullShare} f
/-- A slot, whatever it holds. -/
def slotAny (c : Dev nD) (si : Fin 6) (k : Fin 2) : sProp 𝕄 := iprop(∃ f, slotPts c si k f)
/-- A slot whose used columns read `x`. -/
def slotHas (c : Dev nD) (si : Fin 6) (k : Fin 2) (x : Vec F (SC (wid si)) .bf16) : sProp 𝕄 :=
  iprop(∃ f, ⌜cM.view.readAt (Elt F) (uRect si k).toLoadRect f = x⌝ ∗ slotPts c si k f)

/-- The share of the left block a system's copies read by. -/
def qA : Fin 3 → PosShare TreeShare := ![fullShare.left, fullShare.right.left, fullShare.right.right]

def aPts (c : Dev nD) (y : Fin 3) (f : Buf (Elt F) ((aSlot y).view.loc (c : Thread nD τ))) : sProp 𝕄 :=
  (aSlot y).view.loc (c : Thread nD τ) ↦[(aSlot y).view.set]{fullShare} f
def aHas (c : Dev nD) (y : Fin 3) (e : Fin 8) : sProp 𝕄 :=
  iprop(∃ f, ⌜aM.view.readAt (Elt F) (aRect y).toLoadRect f = aVal m c e⌝ ∗ aPts c y f)
def srcA (c : Dev nD) (y : Fin 3) (e : Fin 8) : sProp 𝕄 :=
  (aChunk c e).view.loc (c : Thread nD τ) ↦[(aChunk c e).view.set]{qA y} m ((aChunk c e).view.loc (c : Thread nD τ))

def bPieceVal (c : Dev nD) (j : Fin 9) : Vec F (SB (pwid j)) .f32 := (bSrc j).view.read (Elt F) (m ((bSrc j).view.loc (c : Thread nD τ)))
def gHas (c : Dev nD) (j : Fin 9) : sProp 𝕄 :=
  iprop(∃ f, ⌜gM.view.readAt (Elt F) (gRect j).toLoadRect f = bPieceVal m c j⌝
    ∗ ((gSlot j).view.loc (c : Thread nD τ) ↦[(gSlot j).view.set]{fullShare} f))
def srcB (c : Dev nD) (j : Fin 9) : sProp 𝕄 :=
  (bSrc j).view.loc (c : Thread nD τ) ↦[(bSrc j).view.set]{fullShare} m ((bSrc j).view.loc (c : Thread nD τ))

def piece (r : ℕ) : Fin 9 := ⟨r % 9, Nat.mod_lt _ (by decide)⟩

/-- The two streams of a mask at the barrier. -/
def barPay (c : Dev nD) (e : Fin 8) : sProp 𝕄 :=
  bigSep (Finset.univ.filter fun si : Fin 6 => eTab (sysOf si) 0 = e) fun si => slotAny (nb c e) si 1

/-- How far the semaphores a device receives on have come, by step. -/
def rRch (c : Dev nD) (si : Fin 6) (u : ℕ) : sProp 𝕄 := reached ER (cell c (.rcv si (sl (u + 1)))) (u / 2)
def yRch (c : Dev nD) (si : Fin 6) (u : ℕ) : sProp 𝕄 := reached ER (cell c (.rdy si (sl u))) (u / 2)
def sRch (c : Dev nD) (si : Fin 6) (u : ℕ) : sProp 𝕄 := reached ER (cell c (.snd si (sl u))) (u / 2)

/-- What the release of step `t` brings device `c`: from the neighbour it sends to next. -/
def rdyPay (c : Dev nD) (si : Fin 6) (t : ℕ) : sProp 𝕄 :=
  iprop(slotAny (nb c (eTab (sysOf si) (t + 1))) si (sl t) ∗ rRch (nb c (eTab (sysOf si) (t + 1))) si (t + 1)
    ∗ bigSep Finset.univ fun si' : Fin 6 => yRch (nb c (eTab (sysOf si) (t + 1))) si' (t + 1))

def dutyOf : CK → ℕ → Finset (Fin 8)
  | .bar, r => if r = 0 then {1, 2, 4} else ∅
  | .locA _, r => if r < 8 then {0} else ∅
  | .locB, r => if r < 9 then {0} else ∅
  | .snd _ k, r => if 2 * r + k.val ≤ 6 then {0} else ∅
  | .rcv _ k, r => if 2 * r + 1 - k.val ≤ 6 then {0} else ∅
  | .rdy _ k, r => if 2 * r + k.val ≤ 5 then {0} else ∅

def amtOf : CK → ℕ → ℕ
  | .bar, _ => 1
  | .locA y, _ => (aSlot y).view.dmaCredit
  | .locB, r => (gSlot (piece r)).view.dmaCredit
  | .snd si k, _ => (cSlot si k).view.dmaCredit
  | .rcv si k, _ => (cSlot si k).view.dmaCredit
  | .rdy _ _, _ => 1

theorem amtOf_pos (k : CK) (r : ℕ) : 0 < amtOf k r := by
  cases k with
  | bar => exact Nat.one_pos
  | locA y => exact View.dmaCredit_pos _ (by decide)
  | locB => exact View.dmaCredit_pos _ (SG_pos _)
  | snd si k => exact View.dmaCredit_pos _ (by decide)
  | rcv si k => exact View.dmaCredit_pos _ (by decide)
  | rdy si k => exact Nat.one_pos

def payOf (c : Dev nD) : CK → ℕ → Fin 8 → sProp 𝕄
  | .bar, _, e => barPay c e
  | .locA y, r, _ => iprop(aHas m c y (mTab y r) ∗ srcA m c y (mTab y r))
  | .locB, r, _ => iprop(gHas m c (piece r) ∗ srcB m c (piece r))
  | .snd si k, _, _ => slotAny c si k
  | .rcv si k, r, _ => slotHas c si k (X m (nb c (eTab (sysOf si) (2 * r + 1 - k.val))) si (2 * r + 1 - k.val))
  | .rdy si k, r, _ => rdyPay c si (2 * r + k.val)

instance payOf_storable (c : Dev nD) (k : CK) (r : ℕ) (d : Fin 8) : BI.Storable (upEmb : UEmb _ 𝕄) (payOf (F := F) m c k r d) := by
  cases k <;> unfold payOf <;> simp only [barPay, aHas, srcA, gHas, srcB, slotHas, slotAny, rdyPay, slotPts, aPts, rRch, yRch] <;> infer_instance

def Rd : Rounds.Schedule (GSem nD τ sig) (Fin 8) 𝕄 where
  duties g r := if g.1.2 = .tc then (kindOf g.2).elim ∅ (fun k => dutyOf k r) else ∅
  unitless _ := False
  amount g r _ := (kindOf g.2).elim 1 (fun k => amtOf k r)
  payload g r d := (kindOf g.2).elim iprop(emp) (fun k => payOf m g.1.1 k r d)
  amount_pos g r d _ := by
    cases h : kindOf g.2 with
    | none => exact Nat.one_pos
    | some k => exact amtOf_pos k r

instance Rd_storable (g : GSem nD τ sig) (r : ℕ) (d : Fin 8) : BI.Storable (upEmb : UEmb _ 𝕄) ((Rd (F := F) m).payload g r d) := by
  unfold Rd
  dsimp only
  cases kindOf g.2 with
  | none => dsimp only [Option.elim]; infer_instance
  | some k => dsimp only [Option.elim]; infer_instance

/-! ## The schedule at a cell -/

theorem duties_cell (c : Dev nD) (k : CK) (r : ℕ) : (Rd (F := F) m).duties (cell c k) r = dutyOf k r := by
  unfold Rd; dsimp only; rw [if_pos rfl, kindOf_csem]; rfl
theorem amount_cell (c : Dev nD) (k : CK) (r : ℕ) (d : Fin 8) : (Rd (F := F) m).amount (cell c k) r d = amtOf k r := by
  unfold Rd; dsimp only; rw [kindOf_csem]; rfl
theorem payload_cell (c : Dev nD) (k : CK) (r : ℕ) (d : Fin 8) : (Rd (F := F) m).payload (cell c k) r d = payOf m c k r d := by
  unfold Rd; dsimp only; rw [kindOf_csem]; rfl
theorem expect_cell (c : Dev nD) (k : CK) (r : ℕ) : (Rd (F := F) m).expect (cell c k) r = (dutyOf k r).card * amtOf k r := by
  unfold Schedule.expect Schedule.amountOf
  rw [duties_cell, Finset.sum_congr rfl fun d _ => amount_cell m c k r d, Finset.sum_const, smul_eq_mul]
theorem rest_cell (c : Dev nD) (k : CK) (r : ℕ) :
    bigSep ((Rd (F := F) m).duties (cell c k) r \ ∅) (fun d => (Rd (F := F) m).payload (cell c k) r d) = bigSep (dutyOf k r) fun d => payOf m c k r d := by
  rw [Finset.sdiff_empty, duties_cell]
  exact bigSep_congr fun d _ => payload_cell m c k r d
theorem rest_one {c : Dev nD} {k : CK} {r : ℕ} (h : dutyOf k r = {0}) :
    bigSep ((Rd (F := F) m).duties (cell c k) r \ ∅) (fun d => (Rd (F := F) m).payload (cell c k) r d) = payOf m c k r 0 := by
  rw [rest_cell, h, bigSep_singleton]

/-- The rounds a semaphore is used for. -/
def lastOf : CK → ℕ
  | .bar => 1
  | .locA _ => 8
  | .locB => 9
  | .snd _ k => if k = 0 then 4 else 3
  | .rcv _ k => if k = 0 then 3 else 4
  | .rdy _ _ => 3

theorem duties_later (c : Dev nD) (k : CK) (R : ℕ) (hR : lastOf k ≤ R) : ∀ r ≥ R, (Rd (F := F) m).duties (cell c k) r = ∅ := fun r hr => by
  rw [duties_cell]
  have hr' : lastOf k ≤ r := le_trans hR hr
  cases k with
  | bar => exact if_neg (by simp only [lastOf] at hr'; omega)
  | locA y => exact if_neg (by simp only [lastOf] at hr'; omega)
  | locB => exact if_neg (by simp only [lastOf] at hr'; omega)
  | snd si k => refine if_neg ?_; simp only [lastOf] at hr'; fin_cases k <;> simp at hr' ⊢ <;> omega
  | rcv si k => refine if_neg ?_; simp only [lastOf] at hr'; fin_cases k <;> simp at hr' ⊢ <;> omega
  | rdy si k => refine if_neg ?_; simp only [lastOf] at hr'; fin_cases k <;> simp at hr' ⊢ <;> omega

theorem duty_snd {si : Fin 6} {u : ℕ} (h : u ≤ 6) : dutyOf (.snd si (sl u)) (u / 2) = {0} := if_pos (by rw [sl_val]; omega)
theorem duty_rcv {si : Fin 6} {u : ℕ} (h : u ≤ 6) : dutyOf (.rcv si (sl (u + 1))) (u / 2) = {0} := if_pos (by rw [sl_val]; omega)
theorem duty_rdy {si : Fin 6} {u : ℕ} (h : u ≤ 5) : dutyOf (.rdy si (sl u)) (u / 2) = {0} := if_pos (by rw [sl_val]; omega)
theorem duty_locA {y : Fin 3} {u : ℕ} (h : u ≤ 7) : dutyOf (.locA y) u = {0} := if_pos (by omega)
theorem duty_locB {j : ℕ} (h : j ≤ 8) : dutyOf .locB j = {0} := if_pos (by omega)

theorem pay_rcv (c : Dev nD) (si : Fin 6) (u : ℕ) (d : Fin 8) :
    payOf m c (.rcv si (sl (u + 1))) (u / 2) d = slotHas c si (sl (u + 1)) (X m (nb c (eTab (sysOf si) u)) si u) := by
  show slotHas c si (sl (u + 1)) (X m (nb c (eTab (sysOf si) (2 * (u / 2) + 1 - (sl (u + 1)).val))) si (2 * (u / 2) + 1 - (sl (u + 1)).val)) = _
  rw [show 2 * (u / 2) + 1 - (sl (u + 1)).val = u from by rw [sl_val]; omega]
theorem pay_rdy (c : Dev nD) (si : Fin 6) (u : ℕ) (d : Fin 8) : payOf m c (.rdy si (sl u)) (u / 2) d = rdyPay c si u := by
  show rdyPay c si (2 * (u / 2) + (sl u).val) = _
  rw [show 2 * (u / 2) + (sl u).val = u from by rw [sl_val]; omega]

end Contents

/-! ## What a device owes: a list of payments, in program order -/

/-- A payment: the mask of the device it goes to, the semaphore, the index it is owed at, the units. -/
abbrev Due : Type := Fin 8 × CK × ℕ × ℕ

def payTo (c : Dev nD) (x : Due) : Pay nD τ sig := (cell (nb c x.1) x.2.1, x.2.2.1, x.2.2.2)
def owed (c : Dev nD) (l : List Due) : CellTallies nD τ sig ℕ := tallyL (l.map (payTo c))

def barD (e : Fin 8) : Due := (e, .bar, 1, 1)
def sndD (t : ℕ) (si : Fin 6) : Due := (eTab (sysOf si) t, .rcv si (sl (t + 1)), 2 * t + 2, (cSlot si (sl (t + 1))).view.dmaCredit)
def rdyD (t : ℕ) (si : Fin 6) : Due := (eTab (sysOf si) (t + 1), .rdy si (sl t), 2 * t + 3, 1)

def six : List (Fin 6) := [0, 1, 2, 3, 4, 5]
/-- What is owed from step `t` on, `n` steps before the last. -/
def tailD (t : ℕ) : ℕ → List Due
  | 0 => []
  | n + 1 => six.map (rdyD t) ++ (six.map (sndD (t + 1)) ++ tailD (t + 1) n)
/-- The order of the first sends. -/
def six0 : List (Fin 6) := [0, 3, 1, 4, 2, 5]
def allD : List Due := [barD 1, barD 2, barD 4] ++ (six0.map (sndD 0) ++ tailD 0 6)

/-- Every payment of the list is owed above index `n`. -/
def Above (n : ℕ) (l : List Due) : Prop := ∀ x ∈ l, n < x.2.2.1

theorem Above.append {n : ℕ} {l l' : List Due} (h : Above n l) (h' : Above n l') : Above n (l ++ l') := fun x hx => by
  rcases List.mem_append.mp hx with hx | hx
  · exact h x hx
  · exact h' x hx
theorem Above.nil {n : ℕ} : Above n [] := fun _ h => absurd h List.not_mem_nil
theorem Above.mono {n n' : ℕ} {l : List Due} (h : Above n l) (hn : n' ≤ n) : Above n' l := fun x hx => lt_of_le_of_lt hn (h x hx)
theorem Above.sub {n : ℕ} {l l' : List Due} (h : Above n l) (hs : ∀ x ∈ l', x ∈ l) : Above n l' := fun x hx => h x (hs x hx)
theorem above_rdy {n t : ℕ} (h : n < 2 * t + 3) (l : List (Fin 6)) : Above n (l.map (rdyD t)) := fun x hx => by
  obtain ⟨si, -, rfl⟩ := List.mem_map.mp hx; exact h
theorem above_snd {n t : ℕ} (h : n < 2 * t + 2) (l : List (Fin 6)) : Above n (l.map (sndD t)) := fun x hx => by
  obtain ⟨si, -, rfl⟩ := List.mem_map.mp hx; exact h
theorem above_tail {n : ℕ} (k : ℕ) : ∀ t, n < 2 * t + 3 → Above n (tailD t k) := by
  induction k with
  | zero => exact fun _ _ => Above.nil
  | succ k ih => exact fun t h => (above_rdy h _).append ((above_snd (by omega) _).append (ih (t + 1) (by omega)))

/-- Every index up to fifteen may be owed at a TensorCore cell; an index is its own level. -/
def L (g : GSem nD τ sig) : Finset ℕ := if g.1.2 = .tc then Finset.range 16 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 16 := if_pos rfl

/-- All indices used are below sixteen. -/
def Below (l : List Due) : Prop := ∀ x ∈ l, x.2.2.1 < 16
theorem below_all : Below allD := by
  intro x hx
  have h : ∀ x ∈ allD.map (fun x : Due => x.2.2.1), x < 16 := by decide
  exact h _ (List.mem_map_of_mem hx)

theorem mayWait (c : Dev nD) (sm : SemLoc sig) {n : ℕ} (hn : n < 16) {l : List Due} (ha : Above n l) (hb : Below l) :
    (levAts L lv : sProp 𝕄) ⊢ MayWait (c : Thread nD τ) sm n (owed c l) := by
  have hp : ∀ g u, 0 < owed c l g u → ∃ x ∈ l, g = cell (nb c x.1) x.2.1 ∧ u = x.2.2.1 := fun g u h => by
    obtain ⟨y, hy, h1, h2⟩ := tallyL_pos h
    obtain ⟨x, hx, rfl⟩ := List.mem_map.mp hy
    exact ⟨x, hx, h1, h2⟩
  refine MayOwe.of_cut (L := L) (lev := lv) n ?_ ?_ ?_ ?_
  · intro p hp; rw [Finset.mem_singleton.mp hp, L_tc]; exact Finset.mem_range.mpr hn
  · intro g u h; obtain ⟨x, hx, rfl, rfl⟩ := hp g u h; rw [L_tc]; exact Finset.mem_range.mpr (hb x hx)
  · intro p hp; rw [Finset.mem_singleton.mp hp]; exact le_refl _
  · intro g u h; obtain ⟨x, hx, rfl, rfl⟩ := hp g u h; exact ha x hx

end Cert.RS
-- ==== Proof.Vals.lean ====
/-
# What the views read after a copy, a send or a store

Facts about indices only: none mentions the schedule.
-/
module

public import proofs.«01_k».proof.Proof.Proto

@[expose] public section

noncomputable section

namespace Cert.RS

open Cert.KernelIdeal Cert.KernelIdeal.Gen
open Idealize.ShloMosaic Idealize.ShloMosaic.TcCoe Idealize.SL Idealize.SL.Sem

variable {F : FTy → Type} [FloatOps F] (m : (ℓ : Loc nD τ sig) → Buf (Elt F) ℓ)

/-! ## Row chunks -/

/-- A staging slot after the copy of a row chunk reads that chunk. -/
theorem read_copyA (c : Dev nD) (y : Fin 3) (e : Fin 8) (f : Buf (Elt F) ((aSlot y).view.loc (c : Thread nD τ))) :
    aM.view.readAt (Elt F) (aRect y).toLoadRect
      ((aSlot y).view.write (Elt F) f ((aChunk c e).view.read (Elt F) (m ((aChunk c e).view.loc (c : Thread nD τ)))) Finset.univ) = aVal m c e := by
  show (aM.view.slice (aRect y)).read (Elt F) (((aM.view.slice (aRect y)).reshape S512x2048 _).write (Elt F) f _ Finset.univ) = _
  rw [View.write_reshape_univ, View.read_write_univ]
  funext x
  unfold aVal
  rw [Shape.reshapeEquiv_symm]
  rfl

theorem aRect_sub (y : Fin 3) : aM.view.setOn (aRect y).toLoadRect.set ⊆ (aSlot y).view.set := by
  rw [show (aSlot y).view.set = (aM.view.slice (aRect y)).set from View.set_reshape _ _, View.set_slice]
  exact Finset.Subset.refl _

/-! ## Pieces of the right operand -/

theorem read_copyB (j : Fin 9) (c : Dev nD) (f : Buf (Elt F) ((gSlot j).view.loc (c : Thread nD τ))) :
    gM.view.readAt (Elt F) (gRect j).toLoadRect
      ((gSlot j).view.write (Elt F) f ((bSrc j).view.read (Elt F) (m ((bSrc j).view.loc (c : Thread nD τ)))) Finset.univ) = bPieceVal m c j :=
  View.read_write_univ _ _

theorem gRect_sub (j : Fin 9) : gM.view.setOn (gRect j).toLoadRect.set ⊆ (gSlot j).view.set := by
  rw [show (gSlot j).view.set = (gM.view.slice (gRect j)).set from rfl, View.set_slice]
  exact Finset.Subset.refl _

/-- The rounded right operand, whole. -/
def bAll (c : Dev nD) : Buf (Elt F) ((c : Thread nD τ).loc cc0_scratch0) :=
  (truncf .bf16 (m ((c : Thread nD τ).loc main_arg1) : FVec F S2048x4096 .f32) bitsLt_bf16_f32 : FVec F S2048x4096 .bf16)

/-- The first `n` columns hold the rounded right operand. -/
def bOK (c : Dev nD) (n : ℕ) (f : Buf (Elt F) ((c : Thread nD τ).loc cc0_scratch0)) : Prop :=
  ∀ i : S2048x4096.Idx, (i 1).val < n → f i = bAll m c i

theorem pieceV_apply (j : Fin 9) (x : Vec F (SB (pwid j)) .f32) : pieceV j x = truncf .bf16 x bitsLt_bf16_f32 := by
  unfold pieceV
  funext i
  show truncf .bf16 x bitsLt_bf16_f32 (Shape.reshapeEquiv _ i) = _
  rw [Shape.reshapeEquiv_self]

theorem bOK_store (c : Dev nD) (j : Fin 9) (f : Buf (Elt F) ((c : Thread nD τ).loc cc0_scratch0)) (h : bOK m c (pcol j) f) :
    bOK m c (pcol j + pwid j) ((bM.access (bRect j)).write (Elt F) f (pieceV j (bPieceVal m c j)) Finset.univ) := by
  intro i hi
  by_cases hm : (i 1).val < pcol j
  · rw [View.write_of_not_mem]
    · exact h i hm
    · rw [View.setOn_univ, View.set_slice_whole, Rect.mem_set_unit]
      intro hall
      have h1 := (hall 1).1
      simp only [Matrix.cons_val_one, Matrix.cons_val_zero] at h1
      omega
  · have e : i = (bM.access (bRect j)).emb (fun a => ⟨(i a).val - (![0, pcol j] : Fin 2 → ℕ) a, by
        fin_cases a
        · show (i 0).val - 0 < 2048; exact lt_of_le_of_lt (Nat.sub_le _ _) (i 0).isLt
        · show (i 1).val - pcol j < pwid j; omega⟩) := by
      funext a
      apply Fin.ext
      fin_cases a
      · show (i 0).val = 0 + 1 * ((i 0).val - 0); omega
      · show (i 1).val = pcol j + 1 * ((i 1).val - pcol j); omega
    conv_lhs => rw [e]
    rw [View.write_emb_of_mem _ _ (Finset.mem_univ _), pieceV_apply]
    conv_rhs => rw [e]
    rfl

theorem read_bVal (c : Dev nD) (si : Fin 6) (n : ℕ) (hn : colOf si + wid si ≤ n) (f : Buf (Elt F) ((c : Thread nD τ).loc cc0_scratch0)) (h : bOK m c n f) :
    bM.view.readAt (Elt F) (wRect si).toLoadRect f = bVal m c si := by
  funext x
  have hx : (((wRect si).toLoadRect.idx x) 1).val < n := by
    show colOf si + 1 * (x 1).val < n
    have : (x 1).val < wid si := (x 1).isLt
    omega
  show f ((wRect si).toLoadRect.idx x) = _
  rw [h _ hx]
  rfl

/-! ## Communication slots -/

theorem cSet_eq (si : Fin 6) (k : Fin 2) :
    (cSlot si k).view.set = (Rect.unit (s := S6x2x512x704) ![si.val, k.val, 0, 0] S1x1x512x704.size (cInb si k)).set := by
  rw [show (cSlot si k).view.set = ((View.whole cc0_scratch3).slice _).set from View.set_reshape _ _, View.set_slice_whole]
theorem aSet_eq (y : Fin 3) : (aSlot y).view.set = (aRect y).set := by
  rw [show (aSlot y).view.set = ((View.whole cc0_scratch2).slice _).set from View.set_reshape _ _, View.set_slice_whole]

theorem SC_le (si : Fin 6) : ∀ a, (SC (wid si)).size a ≤ S1x1x512x704.size a := by revert si; decide

theorem uRect_set_sub (si : Fin 6) (k : Fin 2) : (uRect si k).set ⊆ (cSlot si k).view.set := by
  rw [cSet_eq]
  intro i hi
  rw [Rect.mem_set_unit] at hi ⊢
  exact fun a => ⟨(hi a).1, lt_of_lt_of_le (hi a).2 (Nat.add_le_add_left (SC_le si a) _)⟩
theorem uRect_sub (si : Fin 6) (k : Fin 2) : cM.view.setOn (uRect si k).toLoadRect.set ⊆ (cSlot si k).view.set := by
  have h : cM.view.setOn (uRect si k).toLoadRect.set = (uRect si k).set := by
    show Finset.map _ (uRect si k).set = _
    rw [show cM.view.emb = Function.Embedding.refl _ from rfl, Finset.map_refl]
  rw [h]
  exact uRect_set_sub si k
theorem uRect_store_sub (si : Fin 6) (k : Fin 2) : (cM.access (uRect si k)).setOn Finset.univ ⊆ (cSlot si k).view.set := by
  rw [View.setOn_univ, show (cM.access (uRect si k)).set = (uRect si k).set from View.set_slice_whole _ _]
  exact uRect_set_sub si k

/-- A used index as an index of the whole slot. -/
def up (si : Fin 6) (x : (SC (wid si)).Idx) : S1x1x512x704.Idx := fun a => ⟨(x a).val, lt_of_lt_of_le (x a).isLt (SC_le si a)⟩

theorem emb_up (si : Fin 6) (k : Fin 2) (x : (SC (wid si)).Idx) :
    (uRect si k).toLoadRect.idx x = (cSlot si k).view.emb ((Shape.reshapeEquiv squeezes_S1x1x512x704_S512x704.numel_eq).symm (up si x)) := by
  show _ = (Rect.unit (s := S6x2x512x704) ![si.val, k.val, 0, 0] S1x1x512x704.size (cInb si k)).emb
    (Shape.reshapeEquiv squeezes_S1x1x512x704_S512x704.numel_eq ((Shape.reshapeEquiv squeezes_S1x1x512x704_S512x704.numel_eq).symm (up si x)))
  rw [Equiv.apply_symm_apply]
  rfl

/-- A slot after a landing reads what the slot sent from reads. -/
theorem read_send (c c' : Dev nD) (si : Fin 6) (s r : Fin 2) (fs : Buf (Elt F) ((cSlot si s).view.loc (c : Thread nD τ)))
    (fd : Buf (Elt F) ((cSlot si r).view.loc (c' : Thread nD τ))) :
    cM.view.readAt (Elt F) (uRect si r).toLoadRect ((cSlot si r).view.write (Elt F) fd ((cSlot si s).view.read (Elt F) fs) Finset.univ)
      = cM.view.readAt (Elt F) (uRect si s).toLoadRect fs := by
  funext x
  show (cSlot si r).view.write (Elt F) fd ((cSlot si s).view.read (Elt F) fs) Finset.univ ((uRect si r).toLoadRect.idx x) = fs ((uRect si s).toLoadRect.idx x)
  rw [emb_up si r, emb_up si s, View.write_emb_of_mem _ _ (Finset.mem_univ _)]
  rfl

/-! ## The product buffer and the result -/

/-- The first `n` streams' products are in the buffer. -/
def pOK (c : Dev nD) (t n : ℕ) (f : Buf (Elt F) ((c : Thread nD τ).loc cc0_scratch4)) : Prop :=
  ∀ si : Fin 6, si.val < n → pM.view.readAt (Elt F) (pRect si).toLoadRect f = bufV si (prodV m c si t)

theorem pRect_disj (si sj : Fin 6) (h : si ≠ sj) : Disjoint (pRect si).set (pRect sj).set :=
  Rect.unit_disjoint (0 : Fin 3) (by
    show si.val + 1 ≤ sj.val ∨ sj.val + 1 ≤ si.val
    have : si.val ≠ sj.val := fun e => h (Fin.ext e)
    omega)

theorem pOK_store (c : Dev nD) (t : ℕ) (si : Fin 6) (f : Buf (Elt F) ((c : Thread nD τ).loc cc0_scratch4)) (h : pOK m c t si.val f) :
    pOK m c t (si.val + 1) ((pM.access (pRect si)).write (Elt F) f (bufV si (prodV m c si t)) Finset.univ) := by
  intro sj hj
  by_cases e : sj = si
  · subst e
    exact View.read_write_univ _ _
  · have hlt : sj.val < si.val := by have : sj.val ≠ si.val := fun h => e (Fin.ext h); omega
    rw [← h sj hlt]
    refine View.read_slice_write_slice_of_disjoint (v := pM.view) (pRect sj) (pRect si) f _ _ ?_
    rw [View.setOn_univ, show (pM.view.slice (pRect sj)).set = (pRect sj).set from View.set_slice_whole _ _,
      show (pM.view.slice (pRect si)).set = (pRect si).set from View.set_slice_whole _ _]
    exact pRect_disj sj si e

/-- The first `n` streams' columns of the result are written. -/
def oOK (c : Dev nD) (n : ℕ) (f : Buf (Elt F) ((c : Thread nD τ).loc cc0_stg0_0)) : Prop :=
  ∀ si : Fin 6, si.val < n → oM.view.readAt (Elt F) (oRect si).toLoadRect f = outV m c si

theorem oRect_disj (si sj : Fin 6) (h : si ≠ sj) : Disjoint (oRect si).set (oRect sj).set :=
  Rect.unit_disjoint (1 : Fin 2) (by
    show colOf si + wid si ≤ colOf sj ∨ colOf sj + wid sj ≤ colOf si
    revert h; revert si sj; decide)

theorem oOK_store (c : Dev nD) (si : Fin 6) (f : Buf (Elt F) ((c : Thread nD τ).loc cc0_stg0_0)) (h : oOK m c si.val f) :
    oOK m c (si.val + 1) ((oM.access (oRect si)).write (Elt F) f (outV m c si) Finset.univ) := by
  intro sj hj
  by_cases e : sj = si
  · subst e
    exact View.read_write_univ _ _
  · have hlt : sj.val < si.val := by have : sj.val ≠ si.val := fun h => e (Fin.ext h); omega
    rw [← h sj hlt]
    refine View.read_slice_write_slice_of_disjoint (v := oM.view) (oRect sj) (oRect si) f _ _ ?_
    rw [View.setOn_univ, show (oM.view.slice (oRect sj)).set = (oRect sj).set from View.set_slice_whole _ _,
      show (oM.view.slice (oRect si)).set = (oRect si).set from View.set_slice_whole _ _]
    exact oRect_disj sj si e

/-! ## The slots make up their buffers -/

theorem cSet_disj (p q : Fin 6 × Fin 2) (h : p ≠ q) : Disjoint (cSlot p.1 p.2).view.set (cSlot q.1 q.2).view.set := by
  rw [cSet_eq, cSet_eq]
  by_cases h0 : p.1 = q.1
  · refine Rect.unit_disjoint (1 : Fin 4) ?_
    show p.2.val + 1 ≤ q.2.val ∨ q.2.val + 1 ≤ p.2.val
    have : p.2.val ≠ q.2.val := fun e => h (Prod.ext h0 (Fin.ext e))
    omega
  · refine Rect.unit_disjoint (0 : Fin 4) ?_
    show p.1.val + 1 ≤ q.1.val ∨ q.1.val + 1 ≤ p.1.val
    have : p.1.val ≠ q.1.val := fun e => h0 (Fin.ext e)
    omega

theorem cSet_cover : Finset.biUnion (β := S6x2x512x704.Idx) (Finset.univ : Finset (Fin 6 × Fin 2)) (fun p => (cSlot p.1 p.2).view.set) = Finset.univ := by
  refine Finset.eq_univ_iff_forall.mpr fun i => Finset.mem_biUnion.mpr ⟨((i : S6x2x512x704.Idx) 0, (i : S6x2x512x704.Idx) 1), Finset.mem_univ _, ?_⟩
  refine (congrArg (i ∈ ·) (cSet_eq _ _)).mpr (Rect.mem_set_unit.mpr fun a => ?_)
  have ha := ((i : S6x2x512x704.Idx) a).isLt
  fin_cases a
  · exact ⟨le_refl _, Nat.lt_succ_self _⟩
  · exact ⟨le_refl _, Nat.lt_succ_self _⟩
  · exact ⟨Nat.zero_le _, by simpa using ha⟩
  · exact ⟨Nat.zero_le _, by simpa using ha⟩

theorem aSet_disj (p q : Fin 3) (h : p ≠ q) : Disjoint (aSlot p).view.set (aSlot q).view.set := by
  rw [aSet_eq, aSet_eq]
  refine Rect.unit_disjoint (0 : Fin 3) ?_
  show p.val + 1 ≤ q.val ∨ q.val + 1 ≤ p.val
  have : p.val ≠ q.val := fun e => h (Fin.ext e)
  omega

theorem aSet_cover : Finset.biUnion (β := S3x512x2048.Idx) (Finset.univ : Finset (Fin 3)) (fun y => (aSlot y).view.set) = Finset.univ := by
  refine Finset.eq_univ_iff_forall.mpr fun i => Finset.mem_biUnion.mpr ⟨(i : S3x512x2048.Idx) 0, Finset.mem_univ _, ?_⟩
  refine (congrArg (i ∈ ·) (aSet_eq _)).mpr (Rect.mem_set_unit.mpr fun a => ?_)
  have ha := ((i : S3x512x2048.Idx) a).isLt
  fin_cases a
  · exact ⟨le_refl _, Nat.lt_succ_self _⟩
  · exact ⟨Nat.zero_le _, by simpa using ha⟩
  · exact ⟨Nat.zero_le _, by simpa using ha⟩

end Cert.RS
-- ==== Proof.Ops.lean ====
/-
# One rule for each operation of the kernel

Each rule is at a device, a stream and a step that are variables.
-/
module

public import proofs.«01_k».proof.Proof.Vals

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F]

local notation "𝕄" => MT nD τ sig ℕ (Elt F) ℕ UU ℕ

/-! ## All semaphores, listed -/

def allCK : List CK :=
  CK.bar :: CK.locB :: ((List.finRange 3).map CK.locA
    ++ (List.finRange 6).flatMap fun si => (List.finRange 2).flatMap fun k => [CK.snd si k, CK.rcv si k, CK.rdy si k])

theorem mem_allCK (k : CK) : k ∈ allCK := by
  cases k with
  | bar => decide
  | locA y => revert y; decide
  | locB => decide
  | snd si k => revert si k; decide
  | rcv si k => revert si k; decide
  | rdy si k => revert si k; decide

instance : Fintype CK := ⟨allCK.toFinset, fun k => List.mem_toFinset.mpr (mem_allCK k)⟩

variable (m : (ℓ : Loc nD τ sig) → Buf (Elt F) ℓ) (K : Dev nD × CK → ℕ)

/-- What every device knows throughout. -/
def Ctx : sProp 𝕄 :=
  iprop((bigSep Finset.univ fun p : Dev nD × CK => iprop(cellInv ER (Rd m) (K p) (cell p.1 p.2) ∗ reached ER (cell p.1 p.2) 0)) ∗ levAts L lv)

instance Ctx_persistent : BI.Persistent (Ctx (F := F) m K) := by unfold Ctx; infer_instance

theorem ctx_at (c : Dev nD) (k : CK) :
    (bigSep Finset.univ fun p : Dev nD × CK => iprop(cellInv ER (Rd m) (K p) (cell p.1 p.2) ∗ reached ER (cell p.1 p.2) 0) : sProp 𝕄)
      ⊢ iprop(cellInv ER (Rd m) (K (c, k)) (cell c k) ∗ reached ER (cell c k) 0) :=
  bigSep_elim (i := (c, k)) (Finset.mem_univ _)
theorem ctx_inv (c : Dev nD) (k : CK) : Ctx (F := F) m K ⊢ cellInv ER (Rd m) (K (c, k)) (cell c k) := by
  unfold Ctx
  iintro ⟨H, -⟩
  ihave H' := (ctx_at m K c k) $$ H
  icases H' with ⟨H1, -⟩
  iexact H1
theorem ctx_zero (c : Dev nD) (k : CK) : Ctx (F := F) m K ⊢ reached ER (cell c k) 0 := by
  unfold Ctx
  iintro ⟨H, -⟩
  ihave H' := (ctx_at m K c k) $$ H
  icases H' with ⟨-, H1⟩
  iexact H1
theorem ctx_may (c : Dev nD) (sm : SemLoc sig) {n : ℕ} (hn : n < 16) {l : List Due} (ha : Above n l) (hb : Below l) :
    Ctx (F := F) m K ⊢ MayWait (c : Thread nD τ) sm n (owed c l) := by
  unfold Ctx
  iintro ⟨-, H⟩
  iapply (mayWait (F := F) c sm hn ha hb)
  iexact H

abbrev 𝒱₀ : Variants := Variants.none

/-- What a device owes, whatever it has waited for. -/
def Ow (c : Dev nD) (l : List Due) : sProp 𝕄 := iprop(∃ W, owes (c : Thread nD τ) (owed c l) W)

theorem owed_cons (c : Dev nD) (x : Due) (l : List Due) : owed c (x :: l) = owed c l + tallyAt (cell (nb c x.1) x.2.1) x.2.2.1 x.2.2.2 := by
  show (payTo c x).tally + owed c l = _
  exact add_comm _ _

/-- The program's meaning at device `c`. -/
abbrev WPc (c : Dev nD) (p : Pg F) (Q : PUnit.{1} → sProp 𝕄) : sProp 𝕄 := wp frame (wpE (defs₀ (F := F)) 𝒱₀ (c : Thread nD τ) none) Set.univ p Q

variable (c : Dev nD) (Q : PUnit.{1} → sProp (MT nD τ sig ℕ (Elt F) ℕ UU ℕ)) (k : Pg F)

theorem pay_bar (r : ℕ) (e : Fin 8) : payOf m c .bar r e = barPay c e := rfl
theorem pay_snd (si : Fin 6) (s : Fin 2) (r : ℕ) (e : Fin 8) : payOf m c (.snd si s) r e = slotAny c si s := rfl
theorem pay_locA (y : Fin 3) (r : ℕ) (e : Fin 8) : payOf m c (.locA y) r e = iprop(aHas m c y (mTab y r) ∗ srcA m c y (mTab y r)) := rfl
theorem pay_locB (r : ℕ) (e : Fin 8) : payOf m c .locB r e = iprop(gHas m c (piece r) ∗ srcB m c (piece r)) := rfl

theorem mem_duty {c : Dev nD} {kd : CK} {r : ℕ} (h : dutyOf kd r = {0}) : (0 : Fin 8) ∈ (Rd (F := F) m).duties (cell c kd) r := by
  rw [duties_cell, h]; exact Finset.mem_singleton_self _
theorem to_payload {P : sProp 𝕄} {c : Dev nD} {kd : CK} {r : ℕ} {d : Fin 8} (h : P ⊢ payOf m c kd r d) : P ⊢ (Rd (F := F) m).payload (cell c kd) r d :=
  h.trans (Entails.of_eq (payload_cell m c kd r d).symm)

/-- All slots are of one size. -/
theorem credit_eq (si : Fin 6) (k k' : Fin 2) : (cSlot si k).view.dmaCredit = (cSlot si k').view.dmaCredit := rfl

/-- A slot read by a send comes back; -/
theorem pay_sent {si : Fin 6} {u : ℕ} (c : Dev nD) (f : Buf (Elt F) ((cSlot si (sl u)).view.loc (c : Thread nD τ))) :
    slotPts c si (sl u) f ⊢ payOf m c (.snd si (sl u)) (u / 2) 0 := by
  rw [pay_snd]
  unfold slotAny
  iintro H
  iexists f; iexact H
/-- the slot written holds what was sent. -/
theorem pay_landed {si : Fin 6} {u : ℕ} (c : Dev nD) (f : Buf (Elt F) ((cSlot si (sl u)).view.loc (c : Thread nD τ)))
    (fd : Buf (Elt F) ((cSlot si (sl (u + 1))).view.loc ((nb c (eTab (sysOf si) u) : Dev nD) : Thread nD τ)))
    (hf : cM.view.readAt (Elt F) (uRect si (sl u)).toLoadRect f = X m c si u) :
    slotPts (nb c (eTab (sysOf si) u)) si (sl (u + 1)) ((cSlot si (sl (u + 1))).view.write (Elt F) fd ((cSlot si (sl u)).view.read (Elt F) f) Finset.univ)
      ⊢ payOf m (nb c (eTab (sysOf si) u)) (.rcv si (sl (u + 1))) (u / 2) 0 := by
  rw [pay_rcv, nb_nb]
  unfold slotHas
  iintro H
  iexists _
  isplitr; · ipureintro; exact (read_send c (nb c (eTab (sysOf si) u)) si (sl u) (sl (u + 1)) f fd).trans hf
  iexact H

/-! ## Signals -/

theorem op_barSig (e : Fin 8) (he : e ∈ ({1, 2, 4} : Finset (Fin 8))) (l : List Due) :
    iprop(Ctx m K ∗ Ow c (barD e :: l) ∗ dutyTok ER (cell (nb c e) .bar) 0 e ∗ barPay (nb c e) e)
      ⊢ iprop((Ow c l -∗ WPc c k Q) -∗ WPc c (barSig c e k) Q) := by
  unfold barSig Ow
  iintro ⟨#HC, ⟨%W, HO⟩, Ht, Hp⟩ Hk
  iapply (Rounds.wp_signal 𝒱₀ ER (Rd m) (c : Thread nD τ) none (dst := (nb c e : Thread nD τ)) (sem := bSem) (κ := K (nb c e, .bar)) (r := 0) (d := e) (k' := 1)
    (by rw [show ((nb c e : Thread nD τ), SemLoc.reg bSem) = cell (nb c e) .bar from rfl, duties_cell]; exact he)
    (amount_cell m (nb c e) .bar 0 e) 1 (owed c l) (owed_cons c (barD e) l) (W := W)) $$ [HO Ht Hp]
  · isplitr; · iapply (ctx_inv m K); iexact HC
    isplitl [HO]; · iexact HO
    isplitl [Ht]; · iexact Ht
    isplitl [Hp]; · rw [show ((nb c e : Thread nD τ), SemLoc.reg bSem) = cell (nb c e) .bar from rfl, payload_cell, pay_bar]; iexact Hp
    iapply (ctx_zero m K (nb c e) .bar); iexact HC
  iintro HO
  iapply Hk
  iexists W; iexact HO

/-- The release of step `t` to the neighbour that sends next. -/
theorem op_rdySig (si : Fin 6) (t : ℕ) (ht : t ≤ 5) (l : List Due) :
    iprop(Ctx m K ∗ Ow c (rdyD t si :: l) ∗ dutyTok ER (cell (nb c (eTab (sysOf si) (t + 1))) (.rdy si (sl t))) (t / 2) 0
        ∗ yRch (nb c (eTab (sysOf si) (t + 1))) si t ∗ slotAny c si (sl t) ∗ rRch c si (t + 1) ∗ bigSep Finset.univ fun si' : Fin 6 => yRch c si' (t + 1))
      ⊢ iprop((Ow c l -∗ WPc c k Q) -∗ WPc c (rdySig c si (sl t) (eTab (sysOf si) (t + 1)) k) Q) := by
  unfold rdySig Ow
  generalize he : eTab (sysOf si) (t + 1) = e
  iintro ⟨#HC, ⟨%W, HO⟩, Ht, Hy, Hs, Hr, Hys⟩ Hk
  iapply (Rounds.wp_signal 𝒱₀ ER (Rd m) (c : Thread nD τ) none (dst := (nb c e : Thread nD τ)) (sem := ySem si (sl t)) (κ := K (nb c e, .rdy si (sl t)))
    (r := t / 2) (d := 0) (k' := 1)
    (mem_duty m (c := nb c e) (kd := .rdy si (sl t)) (duty_rdy ht))
    (amount_cell m (nb c e) (.rdy si (sl t)) (t / 2) 0) (2 * t + 3) (O₀ := owed c (rdyD t si :: l)) (owed c l) (by rw [owed_cons]; unfold rdyD; rw [he]; rfl) (W := W)) $$ [HO Ht Hy Hs Hr Hys]
  · isplitr; · iapply (ctx_inv m K); iexact HC
    isplitl [HO]; · iexact HO
    isplitl [Ht]; · iexact Ht
    isplitl [Hs Hr Hys]
    · rw [show ((nb c e : Thread nD τ), SemLoc.reg (ySem si (sl t))) = cell (nb c e) (.rdy si (sl t)) from rfl, payload_cell, pay_rdy]
      unfold rdyPay
      rw [he, nb_nb]
      isplitl [Hs]; · iexact Hs
      isplitl [Hr]; · iexact Hr
      iexact Hys
    unfold yRch; iexact Hy
  iintro HO
  iapply Hk
  iexists W; iexact HO

/-! ## Waits -/

/-- A wait for the whole of a round. -/
theorem op_wait (kd : CK) (n R : ℕ) (l : List Due) (hn : n < 16) (ha : Above n l) (hb : Below l) {N : ℕ} (hN : (dutyOf kd R).card * amtOf kd R = N)
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem kd) N P) :
    iprop(Ctx m K ∗ cred (tallyAt (cell c kd) n N) ∗ Ow c l ∗ atPos ER (cell c kd) R ∅ 0)
      ⊢ iprop(((Ow c l ∗ atPos ER (cell c kd) (R + 1) ∅ 0 ∗ reached ER (cell c kd) (R + 1) ∗ bigSep (dutyOf kd R) fun d => payOf m c kd R d) -∗ WPc c k Q)
        -∗ WPc c (.op w fun _ => k) Q) := by
  unfold Ow
  iintro ⟨#HC, Hc, ⟨%W, HO⟩, Hat⟩ Hk
  iapply (Rounds.wp_wait_rest_token 𝒱₀ ER (Rd m) (c : Thread nD τ) none (sm := csem kd) (κ := K (c, kd)) hw (Set.mem_univ _) n (O := owed c l) (W := W) (R := R) (m := 0) (T := ∅)
    (by rw [Nat.zero_add, show ((c : Thread nD τ), csem kd) = cell c kd from rfl, expect_cell, hN])) $$ [Hc HO Hat]
  · isplitr; · iapply (ctx_inv m K); iexact HC
    isplitl [Hc]; · iexact Hc
    isplitl [HO]; · iexact HO
    isplitr; · iapply (ctx_may m K c (csem kd) hn ha hb); iexact HC
    iexact Hat
  iintro ⟨HO, Hat, Hr, Hp⟩
  ihave Hp := (Entails.of_eq (rest_cell m c kd R)) $$ Hp
  iapply Hk
  isplitl [HO]; · iexists (insert (csem kd, n) W); iexact HO
  isplitl [Hat]; · iexact Hat
  isplitl [Hr]; · iexact Hr
  iexact Hp

theorem card_one {kd : CK} {R : ℕ} (h : dutyOf kd R = {0}) : (dutyOf kd R).card * amtOf kd R = amtOf kd R := by
  rw [h, Finset.card_singleton, Nat.one_mul]

/-- The same where one payment makes the round. -/
theorem op_wait1 (kd : CK) (n R : ℕ) (l : List Due) (hn : n < 16) (ha : Above n l) (hb : Below l) (h : dutyOf kd R = {0})
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem kd) (amtOf kd R) P) :
    iprop(Ctx m K ∗ cred (tallyAt (cell c kd) n (amtOf kd R)) ∗ Ow c l ∗ atPos ER (cell c kd) R ∅ 0)
      ⊢ iprop(((Ow c l ∗ atPos ER (cell c kd) (R + 1) ∅ 0 ∗ reached ER (cell c kd) (R + 1) ∗ payOf m c kd R 0) -∗ WPc c k Q)
        -∗ WPc c (.op w fun _ => k) Q) := by
  have := op_wait m K c Q k kd n R l hn ha hb (card_one h) hw
  rw [h, bigSep_singleton] at this
  exact this

theorem op_barWait (l : List Due) (ha : Above 1 l) (hb : Below l) :
    iprop(Ctx m K ∗ cred (tallyAt (cell c .bar) 1 3) ∗ Ow c l ∗ atPos ER (cell c .bar) 0 ∅ 0)
      ⊢ iprop(((Ow c l ∗ atPos ER (cell c .bar) 1 ∅ 0 ∗ bigSep {1, 2, 4} fun e => barPay c e) -∗ WPc c k Q) -∗ WPc c (barWait k) Q) := by
  unfold barWait
  iintro H Hk
  iapply (op_wait m K c Q k .bar 1 0 l (by decide) ha hb (N := 3) (by decide) (w := .semWait bSem (3#32).toInt) (fun _ => rfl)) $$ H
  iintro ⟨HO, Hat, -, Hp⟩
  iapply Hk
  isplitl [HO]; · iexact HO
  isplitl [Hat]; · iexact Hat
  iexact Hp

/-- Where the semaphores of a stream's step stand. -/
def sAt (si : Fin 6) (u : ℕ) : sProp 𝕄 := atPos ER (cell c (.snd si (sl u))) (u / 2) ∅ 0
def rAt (si : Fin 6) (u : ℕ) : sProp 𝕄 := atPos ER (cell c (.rcv si (sl (u + 1)))) (u / 2) ∅ 0
def yAt (si : Fin 6) (u : ℕ) : sProp 𝕄 := atPos ER (cell c (.rdy si (sl u))) (u / 2) ∅ 0
/-- What a stream's step is waited for by. -/
def sCred (si : Fin 6) (u : ℕ) : sProp 𝕄 := cred (tallyAt (cell c (.snd si (sl u))) 0 (cSlot si (sl u)).view.dmaCredit)
def rCred (si : Fin 6) (u : ℕ) : sProp 𝕄 := cred (tallyAt (cell c (.rcv si (sl (u + 1)))) (2 * u + 2) (cSlot si (sl (u + 1))).view.dmaCredit)
def yCred (si : Fin 6) (u : ℕ) : sProp 𝕄 := cred (tallyAt (cell c (.rdy si (sl u))) (2 * u + 3) 1)

theorem op_waitS (si : Fin 6) (u : ℕ) (hu : u ≤ 6) (r : Fin 2) (l : List Due) (ha : Above 0 l) (hb : Below l) :
    iprop(Ctx m K ∗ sCred c si u ∗ Ow c l ∗ sAt c si u)
      ⊢ iprop(((Ow c l ∗ sAt c si (u + 2) ∗ sRch c si (u + 2) ∗ slotAny c si (sl u)) -∗ WPc c k Q) -∗ WPc c (waitS si (sl u) r k) Q) := by
  unfold waitS sCred sAt sRch
  rw [sl_two, half_two]
  exact op_wait1 m K c Q k (.snd si (sl u)) 0 (u / 2) l (by decide) ha hb (duty_snd hu) (fun _ => rfl)

theorem op_waitR (si : Fin 6) (u : ℕ) (hu : u ≤ 6) (s : Fin 2) (l : List Due) (ha : Above (2 * u + 2) l) (hb : Below l) :
    iprop(Ctx m K ∗ rCred c si u ∗ Ow c l ∗ rAt c si u)
      ⊢ iprop(((Ow c l ∗ rAt c si (u + 2) ∗ rRch c si (u + 2) ∗ slotHas c si (sl (u + 1)) (X m (nb c (eTab (sysOf si) u)) si u)) -∗ WPc c k Q)
        -∗ WPc c (waitR si s (sl (u + 1)) k) Q) := by
  unfold waitR rCred rAt rRch
  rw [show u + 2 + 1 = (u + 1) + 2 from rfl, sl_two, half_two, ← pay_rcv m c si u 0]
  exact op_wait1 m K c Q k (.rcv si (sl (u + 1))) (2 * u + 2) (u / 2) l (by omega) ha hb (duty_rcv hu) (fun _ => rfl)

theorem op_rdyWait (si : Fin 6) (u : ℕ) (hu : u ≤ 5) (l : List Due) (ha : Above (2 * u + 3) l) (hb : Below l) :
    iprop(Ctx m K ∗ yCred c si u ∗ Ow c l ∗ yAt c si u)
      ⊢ iprop(((Ow c l ∗ yAt c si (u + 2) ∗ yRch c si (u + 2) ∗ rdyPay c si u) -∗ WPc c k Q) -∗ WPc c (rdyWait si (sl u) k) Q) := by
  unfold rdyWait yCred yAt yRch
  rw [sl_two, half_two, ← pay_rdy m c si u 0]
  exact op_wait1 m K c Q k (.rdy si (sl u)) (2 * u + 3) (u / 2) l (by omega) ha hb (duty_rdy hu) (fun _ => rfl)

def aCred (y : Fin 3) : sProp 𝕄 := cred (tallyAt (cell c (.locA y)) 0 (aSlot y).view.dmaCredit)

theorem op_waitA (y : Fin 3) (u : ℕ) (hu : u ≤ 7) (src : Memref sig .tc .hbm S512x2048 .f32) (l : List Due) (ha : Above 0 l) (hb : Below l) :
    iprop(Ctx m K ∗ aCred c y ∗ Ow c l ∗ atPos ER (cell c (.locA y)) u ∅ 0)
      ⊢ iprop(((Ow c l ∗ atPos ER (cell c (.locA y)) (u + 1) ∅ 0 ∗ reached ER (cell c (.locA y)) (u + 1) ∗ aHas m c y (mTab y u) ∗ srcA m c y (mTab y u)) -∗ WPc c k Q)
        -∗ WPc c (waitA y src k) Q) := by
  unfold waitA aCred
  exact op_wait1 m K c Q k (.locA y) 0 u l (by decide) ha hb (duty_locA hu) (fun _ => rfl)

/-! ## Copies and sends -/

theorem op_copyA (y : Fin 3) (u : ℕ) (hu : u ≤ 7) :
    iprop(Ctx m K ∗ (∃ f, aPts c y f) ∗ srcA m c y (mTab y u) ∗ dutyTok ER (cell c (.locA y)) u 0 ∗ reached ER (cell c (.locA y)) u)
      ⊢ iprop((aCred c y -∗ WPc c k Q) -∗ WPc c (copyA c y (mTab y u) k) Q) := by
  unfold copyA aCred aPts srcA
  iintro ⟨#HC, ⟨%f, Hd⟩, Hs, Ht, Hr⟩ Hk
  iapply (Rounds.wp_copy_pointsTo 𝒱₀ ER (Rd m) (c : Thread nD τ) none (sem := csem (.locA y)) (κ := K (c, .locA y)) (r := u) (d := 0)
    (mem_duty m (duty_locA hu))
    0 (aSlot y).view.dmaCredit rfl (amount_cell m c (.locA y) u 0)
    (by
      rw [show ((c : Thread nD τ), csem (.locA y)) = cell c (.locA y) from rfl, payload_cell, pay_locA]
      unfold aHas srcA aPts
      iintro ⟨Hd, Hs⟩
      isplitl [Hd]
      · iexists _
        isplitr; · ipureintro; exact read_copyA m c y (mTab y u) f
        iexact Hd
      iexact Hs)) $$ [Hd Hs Ht Hr]
  · isplitr; · iapply (ctx_inv m K); iexact HC
    isplitl [Hs]; · iexact Hs
    isplitl [Hd]; · iexact Hd
    isplitl [Ht]; · iexact Ht
    iexact Hr
  iexact Hk

/-- The two payments of a send, at the semaphores as the program names them. -/
theorem sent_payload {si : Fin 6} {u : ℕ} (c : Dev nD) (f : Buf (Elt F) ((cSlot si (sl u)).view.loc (c : Thread nD τ))) :
    ((cSlot si (sl u)).view.loc (c : Thread nD τ) ↦[(cSlot si (sl u)).view.set]{fullShare} f : sProp 𝕄)
      ⊢ (Rd m).payload ((c : Thread nD τ), .dma (sSem si (sl u))) (u / 2) 0 :=
  to_payload m (c := c) (kd := .snd si (sl u)) (pay_sent m c f)
theorem landed_payload {si : Fin 6} {u : ℕ} (c : Dev nD) (f : Buf (Elt F) ((cSlot si (sl u)).view.loc (c : Thread nD τ)))
    (fd : Buf (Elt F) ((cSlot si (sl (u + 1))).view.loc ((nb c (eTab (sysOf si) u) : Dev nD) : Thread nD τ)))
    (hf : cM.view.readAt (Elt F) (uRect si (sl u)).toLoadRect f = X m c si u) :
    ((cSlot si (sl (u + 1))).view.loc ((nb c (eTab (sysOf si) u) : Dev nD) : Thread nD τ) ↦[(cSlot si (sl (u + 1))).view.set]{fullShare}
        ((cSlot si (sl (u + 1))).view.write (Elt F) fd ((cSlot si (sl u)).view.read (Elt F) f) Finset.univ) : sProp 𝕄)
      ⊢ (Rd m).payload (((nb c (eTab (sysOf si) u) : Dev nD) : Thread nD τ), .dma (rSem si (sl (u + 1)))) (u / 2) 0 :=
  to_payload m (c := nb c (eTab (sysOf si) u)) (kd := .rcv si (sl (u + 1))) (pay_landed m c f fd hf)

/-- The send with every resource written out. -/
theorem raw_send (si : Fin 6) (u : ℕ) (hu : u ≤ 6) (l : List Due) (W : Waits sig ℕ) (f : Buf (Elt F) ((cSlot si (sl u)).view.loc (c : Thread nD τ)))
    (fd : Buf (Elt F) ((cSlot si (sl (u + 1))).view.loc ((nb c (eTab (sysOf si) u) : Dev nD) : Thread nD τ)))
    (hf : cM.view.readAt (Elt F) (uRect si (sl u)).toLoadRect f = X m c si u) :
    iprop(cellInv ER (Rd m) (K (c, .snd si (sl u))) ((c : Thread nD τ), .dma (sSem si (sl u)))
        ∗ cellInv ER (Rd m) (K (nb c (eTab (sysOf si) u), .rcv si (sl (u + 1)))) (((nb c (eTab (sysOf si) u) : Dev nD) : Thread nD τ), .dma (rSem si (sl (u + 1))))
        ∗ ((cSlot si (sl u)).view.loc (c : Thread nD τ) ↦[(cSlot si (sl u)).view.set]{fullShare} f)
        ∗ ((cSlot si (sl (u + 1))).view.loc ((nb c (eTab (sysOf si) u) : Dev nD) : Thread nD τ) ↦[(cSlot si (sl (u + 1))).view.set]{fullShare} fd)
        ∗ owes (c : Thread nD τ) (owed c (sndD u si :: l)) W
        ∗ dutyTok ER ((c : Thread nD τ), .dma (sSem si (sl u))) (u / 2) 0 ∗ reached ER ((c : Thread nD τ), .dma (sSem si (sl u))) (u / 2)
        ∗ dutyTok ER (((nb c (eTab (sysOf si) u) : Dev nD) : Thread nD τ), .dma (rSem si (sl (u + 1)))) (u / 2) 0
        ∗ reached ER (((nb c (eTab (sysOf si) u) : Dev nD) : Thread nD τ), .dma (rSem si (sl (u + 1)))) (u / 2))
      ⊢ iprop(((cred (tallyAt ((c : Thread nD τ), .dma (sSem si (sl u))) 0 (cSlot si (sl (u + 1))).view.dmaCredit) ∗ owes (c : Thread nD τ) (owed c l) W) -∗ WPc c k Q)
        -∗ WPc c (sendP c si (sl u) (sl (u + 1)) (eTab (sysOf si) u) k) Q) := by
  have h₁ : (0 : Fin 8) ∈ (Rd (F := F) m).duties ((c : Thread nD τ), .dma (sSem si (sl u))) (u / 2) := mem_duty m (c := c) (kd := .snd si (sl u)) (duty_snd hu)
  have h₂ : (0 : Fin 8) ∈ (Rd (F := F) m).duties (((nb c (eTab (sysOf si) u) : Dev nD) : Thread nD τ), .dma (rSem si (sl (u + 1)))) (u / 2) :=
    mem_duty m (c := nb c (eTab (sysOf si) u)) (kd := .rcv si (sl (u + 1))) (duty_rcv hu)
  have h₃ : (Rd (F := F) m).amount ((c : Thread nD τ), .dma (sSem si (sl u))) (u / 2) 0 = (cSlot si (sl (u + 1))).view.dmaCredit :=
    (amount_cell m c (.snd si (sl u)) (u / 2) 0).trans (credit_eq si (sl u) (sl (u + 1)))
  have h₄ : (Rd (F := F) m).amount (((nb c (eTab (sysOf si) u) : Dev nD) : Thread nD τ), .dma (rSem si (sl (u + 1)))) (u / 2) 0 = (cSlot si (sl (u + 1))).view.dmaCredit :=
    amount_cell m (nb c (eTab (sysOf si) u)) (.rcv si (sl (u + 1))) (u / 2) 0
  have h₅ : owed c (sndD u si :: l) = owed c l + tallyAt (((nb c (eTab (sysOf si) u) : Dev nD) : Thread nD τ), .dma (rSem si (sl (u + 1)))) (2 * u + 2) (cSlot si (sl (u + 1))).view.dmaCredit :=
    owed_cons c (sndD u si) l
  unfold sendP
  exact Rounds.wp_send_pointsTo (defs := defs₀ (F := F)) 𝒱₀ ER (Rd m) (c : Thread nD τ) none (k := fun _ => k) (Q := Q) (κ₁ := K (c, .snd si (sl u)))
    (κ₂ := K (nb c (eTab (sysOf si) u), .rcv si (sl (u + 1)))) (W := W) h₁ h₂ (2 * u + 2) 0 (cSlot si (sl (u + 1))).view.dmaCredit rfl h₃ h₄
    (owed c l) h₅ (sent_payload m c f) (landed_payload m c f fd hf)

/-- The send of step `u`, out of its slot into the neighbour's. -/
theorem op_sendP (si : Fin 6) (u : ℕ) (hu : u ≤ 6) (s r : Fin 2) (hs : s = sl u) (hr : r = sl (u + 1)) (l : List Due) :
    iprop(Ctx m K ∗ slotHas c si (sl u) (X m c si u) ∗ slotAny (nb c (eTab (sysOf si) u)) si (sl (u + 1)) ∗ Ow c (sndD u si :: l)
        ∗ dutyTok ER (cell c (.snd si (sl u))) (u / 2) 0 ∗ sRch c si u
        ∗ dutyTok ER (cell (nb c (eTab (sysOf si) u)) (.rcv si (sl (u + 1)))) (u / 2) 0 ∗ rRch (nb c (eTab (sysOf si) u)) si u)
      ⊢ iprop(((sCred c si u ∗ Ow c l) -∗ WPc c k Q) -∗ WPc c (sendP c si s r (eTab (sysOf si) u) k) Q) := by
  subst hs hr
  unfold Ow sCred slotHas slotAny slotPts sRch rRch
  rw [credit_eq si (sl u) (sl (u + 1))]
  iintro ⟨#HC, ⟨%f, %hf, Hsrc⟩, ⟨%fd, Hdst⟩, ⟨%W, HO⟩, Ht1, Hr1, Ht2, Hr2⟩ Hk
  iapply (raw_send m K c Q k si u hu l W f fd hf) $$ [Hsrc Hdst HO Ht1 Hr1 Ht2 Hr2]
  · isplitr; · iapply (ctx_inv m K c (.snd si (sl u))); iexact HC
    isplitr; · iapply (ctx_inv m K (nb c (eTab (sysOf si) u)) (.rcv si (sl (u + 1)))); iexact HC
    isplitl [Hsrc]; · iexact Hsrc
    isplitl [Hdst]; · iexact Hdst
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

end Cert.RS
-- ==== Proof.Local.lean ====
/-
# The local operations

Products, additions and the pieces of the right operand: what each takes and leaves.
-/
module

public import proofs.«01_k».proof.Proof.Ops

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F]

local notation "𝕄" => MT nD τ sig ℕ (Elt F) ℕ UU ℕ

variable (m : (ℓ : Loc nD τ sig) → Buf (Elt F) ℓ) (K : Dev nD × CK → ℕ)
variable (c : Dev nD) (Q : PUnit.{1} → sProp (MT nD τ sig ℕ (Elt F) ℕ UU ℕ)) (k : Pg F)

/-- The right operand's rounded copy, its first `n` columns written. -/
def bHas (n : ℕ) : sProp 𝕄 := iprop(∃ f, ⌜bOK m c n f⌝ ∗ ((c : Thread nD τ).loc cc0_scratch0 ↦{fullShare} f))
/-- The staging buffer of its pieces. -/
def gAny : sProp 𝕄 := iprop(∃ f, (c : Thread nD τ).loc cc0_scratch1 ↦{fullShare} f)
/-- The right operand. -/
def argB : sProp 𝕄 := (c : Thread nD τ).loc main_arg1 ↦{fullShare} m ((c : Thread nD τ).loc main_arg1)
/-- The product buffer, the products of the first `n` streams at step `t` written. -/
def pHas (t n : ℕ) : sProp 𝕄 := iprop(∃ f, ⌜pOK m c t n f⌝ ∗ ((c : Thread nD τ).loc cc0_scratch4 ↦{fullShare} f))
/-- The result's staging buffer, the columns of the first `n` streams written. -/
def oHas (n : ℕ) : sProp 𝕄 := iprop(∃ f, ⌜oOK m c n f⌝ ∗ ((c : Thread nD τ).loc cc0_stg0_0 ↦{fullShare} f))

theorem pHas_start (t t' n : ℕ) : pHas m c t n ⊢ pHas m c t' 0 := by
  unfold pHas
  iintro ⟨%f, -, H⟩
  iexists f
  isplitr; · ipureintro; exact fun _ h => absurd h (Nat.not_lt_zero _)
  iexact H

/-- One column stream's product, from the row chunk and the rounded operand. -/
theorem op_firstDot (si : Fin 6) (n : ℕ) (hn : colOf si + wid si ≤ n) :
    iprop(aHas m c (sysOf si) (mTab (sysOf si) 0) ∗ bHas m c n ∗ slotAny c si 0)
      ⊢ iprop(((aHas m c (sysOf si) (mTab (sysOf si) 0) ∗ bHas m c n ∗ slotHas c si 0 (X m c si 0)) -∗ WPc c k Q) -∗ WPc c (firstDot si k) Q) := by
  unfold firstDot aHas bHas slotAny slotHas slotPts aPts
  iintro ⟨⟨%fa, %ha, Ha⟩, ⟨%fb, %hb, Hb⟩, ⟨%fc, Hc⟩⟩ Hk
  iapply (wp_load 𝒱₀ (c : Thread nD τ) none Set.univ (m := aM) (aRect_sub (sysOf si))) $$ Ha; iintro Ha
  iapply (wp_load 𝒱₀ (c : Thread nD τ) none Set.univ (m := bM) (Finset.subset_univ _)) $$ Hb; iintro Hb
  iapply (wp_load 𝒱₀ (c : Thread nD τ) none Set.univ (m := cM) (uRect_sub si 0)) $$ Hc; iintro Hc
  iapply (wp_store 𝒱₀ (c : Thread nD τ) none Set.univ (m := cM) (r := uRect si 0) (Mk := Finset.univ) (uRect_store_sub si 0)) $$ Hc; iintro Hc
  iapply Hk
  isplitl [Ha]
  · iexists fa
    isplitr; · ipureintro; exact ha
    iexact Ha
  isplitl [Hb]
  · iexists fb
    isplitr; · ipureintro; exact hb
    iexact Hb
  iexists _
  isplitr
  rotate_left
  · iexact Hc
  ipureintro
  refine (View.read_write_univ _ _).trans ?_
  rw [ha, read_bVal m c si n hn fb hb]
  rfl

theorem op_dotP (si : Fin 6) (t : ℕ) :
    iprop(aHas m c (sysOf si) (mTab (sysOf si) t) ∗ bHas m c 4096 ∗ pHas m c t si.val)
      ⊢ iprop(((aHas m c (sysOf si) (mTab (sysOf si) t) ∗ bHas m c 4096 ∗ pHas m c t (si.val + 1)) -∗ WPc c k Q) -∗ WPc c (dotP si k) Q) := by
  unfold dotP aHas bHas pHas aPts
  iintro ⟨⟨%fa, %ha, Ha⟩, ⟨%fb, %hb, Hb⟩, ⟨%fp, %hp, Hp⟩⟩ Hk
  iapply (wp_load 𝒱₀ (c : Thread nD τ) none Set.univ (m := aM) (aRect_sub (sysOf si))) $$ Ha; iintro Ha
  iapply (wp_load 𝒱₀ (c : Thread nD τ) none Set.univ (m := bM) (Finset.subset_univ _)) $$ Hb; iintro Hb
  iapply (wp_load 𝒱₀ (c : Thread nD τ) none Set.univ (m := pM) (Finset.subset_univ _)) $$ Hp; iintro Hp
  iapply (wp_store 𝒱₀ (c : Thread nD τ) none Set.univ (m := pM) (r := pRect si) (Mk := Finset.univ) (Finset.subset_univ _)) $$ Hp; iintro Hp
  iapply Hk
  isplitl [Ha]
  · iexists fa
    isplitr; · ipureintro; exact ha
    iexact Ha
  isplitl [Hb]
  · iexists fb
    isplitr; · ipureintro; exact hb
    iexact Hb
  iexists _
  isplitr
  rotate_left
  · iexact Hp
  ipureintro
  rw [ha, read_bVal m c si 4096 (wInb si 1) fb hb]
  exact pOK_store m c t si fp hp

/-- What landed, plus the local product. -/
theorem op_addP (si : Fin 6) (t : ℕ) (r : Fin 2) (x : Vec F (SC (wid si)) .bf16) :
    iprop(slotHas c si r x ∗ pHas m c t 6)
      ⊢ iprop(((slotHas c si r (slotV si (addV si x (bufV si (prodV m c si t)))) ∗ pHas m c t 6) -∗ WPc c k Q) -∗ WPc c (addP si r k) Q) := by
  unfold addP slotHas slotPts pHas
  iintro ⟨⟨%fc, %hc, Hc⟩, ⟨%fp, %hp, Hp⟩⟩ Hk
  iapply (wp_load 𝒱₀ (c : Thread nD τ) none Set.univ (m := cM) (uRect_sub si r)) $$ Hc; iintro Hc
  iapply (wp_load 𝒱₀ (c : Thread nD τ) none Set.univ (m := pM) (Finset.subset_univ _)) $$ Hp; iintro Hp
  iapply (wp_load 𝒱₀ (c : Thread nD τ) none Set.univ (m := cM) (uRect_sub si r)) $$ Hc; iintro Hc
  iapply (wp_store 𝒱₀ (c : Thread nD τ) none Set.univ (m := cM) (r := uRect si r) (Mk := Finset.univ) (uRect_store_sub si r)) $$ Hc; iintro Hc
  iapply Hk
  isplitl [Hc]
  · iexists _
    isplitr
    rotate_left
    · iexact Hc
    ipureintro
    refine (View.read_write_univ _ _).trans ?_
    rw [hc, hp si si.isLt]
  iexists fp
  isplitr; · ipureintro; exact hp
  iexact Hp

/-- The last addition, into the result. -/
theorem op_outP (si : Fin 6) (r : Fin 2) :
    iprop(slotHas c si r (X m (nb c (eTab (sysOf si) 6)) si 6) ∗ pHas m c 7 6 ∗ oHas m c si.val)
      ⊢ iprop(((slotAny c si r ∗ pHas m c 7 6 ∗ oHas m c (si.val + 1)) -∗ WPc c k Q) -∗ WPc c (outP si r k) Q) := by
  unfold outP slotHas slotAny slotPts pHas oHas
  iintro ⟨⟨%fc, %hc, Hc⟩, ⟨%fp, %hp, Hp⟩, ⟨%fo, %ho, Ho⟩⟩ Hk
  iapply (wp_load 𝒱₀ (c : Thread nD τ) none Set.univ (m := cM) (uRect_sub si r)) $$ Hc; iintro Hc
  iapply (wp_load 𝒱₀ (c : Thread nD τ) none Set.univ (m := pM) (Finset.subset_univ _)) $$ Hp; iintro Hp
  iapply (wp_load 𝒱₀ (c : Thread nD τ) none Set.univ (m := oM) (Finset.subset_univ _)) $$ Ho; iintro Ho
  iapply (wp_store 𝒱₀ (c : Thread nD τ) none Set.univ (m := oM) (r := oRect si) (Mk := Finset.univ) (Finset.subset_univ _)) $$ Ho; iintro Ho
  iapply Hk
  isplitl [Hc]; · iexists fc; iexact Hc
  isplitl [Hp]
  · iexists fp
    isplitr; · ipureintro; exact hp
    iexact Hp
  iexists _
  isplitr
  rotate_left
  · iexact Ho
  ipureintro
  rw [hc, hp si si.isLt]
  exact oOK_store m c si fo ho

theorem piece_val (j : Fin 9) : piece j.val = j := Fin.ext (Nat.mod_eq_of_lt j.isLt)

theorem amt_locB (j : Fin 9) : amtOf .locB j.val = (gSlot j).view.dmaCredit := by
  show (gSlot (piece j.val)).view.dmaCredit = _
  rw [piece_val]

theorem landed_piece (j : Fin 9) (f : Buf (Elt F) ((gSlot j).view.loc (c : Thread nD τ))) :
    iprop(((gSlot j).view.loc (c : Thread nD τ) ↦[(gSlot j).view.set]{fullShare}
          ((gSlot j).view.write (Elt F) f ((bSrc j).view.read (Elt F) (m ((bSrc j).view.loc (c : Thread nD τ)))) Finset.univ))
        ∗ ((bSrc j).view.loc (c : Thread nD τ) ↦[(bSrc j).view.set]{fullShare} m ((bSrc j).view.loc (c : Thread nD τ))))
      ⊢ (Rd (F := F) m).payload ((c : Thread nD τ), .dma (lSem 3)) j.val 0 := by
  refine to_payload m (c := c) (kd := .locB) (r := j.val) (d := 0) ?_
  rw [pay_locB, piece_val]
  unfold gHas srcB
  iintro ⟨Hd, Hs⟩
  isplitl [Hd]
  · iexists _
    isplitr
    rotate_left
    · iexact Hd
    ipureintro; exact read_copyB m j c f
  iexact Hs

/-- The copy of a piece. -/
theorem op_copyB (j : Fin 9) (kk : Pg F) (f : Buf (Elt F) ((gSlot j).view.loc (c : Thread nD τ))) :
    iprop(cellInv ER (Rd m) (K (c, .locB)) ((c : Thread nD τ), .dma (lSem 3))
        ∗ ((bSrc j).view.loc (c : Thread nD τ) ↦[(bSrc j).view.set]{fullShare} m ((bSrc j).view.loc (c : Thread nD τ)))
        ∗ ((gSlot j).view.loc (c : Thread nD τ) ↦[(gSlot j).view.set]{fullShare} f)
        ∗ dutyTok ER ((c : Thread nD τ), .dma (lSem 3)) j.val 0 ∗ reached ER ((c : Thread nD τ), .dma (lSem 3)) j.val)
      ⊢ iprop((cred (tallyAt ((c : Thread nD τ), .dma (lSem 3)) 0 (gSlot j).view.dmaCredit) -∗ WPc c kk Q)
        -∗ WPc c (.op (.enqueueDma (bSrc j) (.here (gSlot j)) (.dma (lSem 3)) (View.wordExact_bits rfl) (View.wordExact_bits rfl) ⟨Or.inl rfl, trivial⟩) fun _ => kk) Q) := by
  have hd : (0 : Fin 8) ∈ (Rd (F := F) m).duties ((c : Thread nD τ), .dma (lSem 3)) j.val := mem_duty m (c := c) (kd := .locB) (duty_locB (by omega))
  have ha : (Rd (F := F) m).amount ((c : Thread nD τ), .dma (lSem 3)) j.val 0 = (gSlot j).view.dmaCredit := (amount_cell m c .locB j.val 0).trans (amt_locB j)
  exact Rounds.wp_copy_pointsTo (defs := defs₀ (F := F)) 𝒱₀ ER (Rd m) (c : Thread nD τ) none (k := fun _ => kk) (Q := Q) (κ := K (c, .locB)) hd 0
    (gSlot j).view.dmaCredit rfl ha (landed_piece m c j f)

/-- Its wait. -/
theorem op_waitB (j : Fin 9) (kk : Pg F) (l : List Due) (ha : Above 0 l) (hb : Below l) :
    iprop(Ctx m K ∗ cred (tallyAt ((c : Thread nD τ), .dma (lSem 3)) 0 (gSlot j).view.dmaCredit) ∗ Ow c l ∗ atPos ER (cell c .locB) j.val ∅ 0)
      ⊢ iprop(((Ow c l ∗ atPos ER (cell c .locB) (j.val + 1) ∅ 0 ∗ reached ER (cell c .locB) (j.val + 1) ∗ gHas m c j ∗ srcB m c j) -∗ WPc c kk Q)
        -∗ WPc c (.op (.waitDma2 (lSem 3) (bSrc j) (gSlot j) (View.wordExact_bits rfl) (View.wordExact_bits rfl)) fun _ => kk) Q) := by
  have h := op_wait1 m K c Q kk .locB 0 j.val l (by decide) ha hb (duty_locB (by omega))
    (w := .waitDma2 (lSem 3) (bSrc j) (gSlot j) (View.wordExact_bits rfl) (View.wordExact_bits rfl)) (by rw [amt_locB]; exact fun _ => rfl)
  rw [amt_locB, pay_locB, piece_val] at h
  exact h

/-- What landed, rounded and stored. -/
theorem op_roundB (j : Fin 9) :
    iprop(gHas m c j ∗ bHas m c (pcol j))
      ⊢ iprop(((gHas m c j ∗ bHas m c (pcol j + pwid j)) -∗ WPc c k Q)
        -∗ WPc c (.op (.load (Memref.whole cc0_scratch1) (gRect j).toLoadRect (View.loadsAt_vmem (SG_pos j))) fun x =>
            .op (.load (Memref.whole cc0_scratch0) (bRect j).toLoadRect (View.loadsAt_vmem (SG_pos j))) fun _ =>
            .op (.store (Memref.whole cc0_scratch0) (bRect j) (pieceV j x) Finset.univ
              (View.stores_vmem (SG_pos j) ((Memref.isWhole_whole cc0_scratch0).storeExact_slice rfl _ (bPacked j)) (fun _ => rfl)) (.inl rfl)) fun _ => k) Q) := by
  unfold gHas bHas
  iintro ⟨⟨%fg, %hg, Hg⟩, ⟨%fb, %hb, Hb⟩⟩ Hk
  iapply (wp_load 𝒱₀ (c : Thread nD τ) none Set.univ (m := gM) (gRect_sub j)) $$ Hg; iintro Hg
  iapply (wp_load 𝒱₀ (c : Thread nD τ) none Set.univ (m := bM) (Finset.subset_univ _)) $$ Hb; iintro Hb
  iapply (wp_store 𝒱₀ (c : Thread nD τ) none Set.univ (m := bM) (r := bRect j) (Mk := Finset.univ) (Finset.subset_univ _)) $$ Hb; iintro Hb
  iapply Hk
  isplitl [Hg]
  · iexists fg
    isplitr; · ipureintro; exact hg
    iexact Hg
  iexists _
  isplitr
  rotate_left
  · iexact Hb
  ipureintro
  rw [hg]
  exact bOK_store m c j fb hb

theorem gAny_split (j : Fin 9) : gAny (F := F) c ⊢ iprop(∃ f : Buf (Elt F) ((gSlot j).view.loc (c : Thread nD τ)),
    ((gSlot j).view.loc (c : Thread nD τ) ↦[(gSlot j).view.set]{fullShare} f) ∗ ((gSlot j).view.loc (c : Thread nD τ) ↦[Finset.univ \ (gSlot j).view.set]{fullShare} f)) := by
  unfold gAny
  iintro ⟨%f, H⟩
  iexists f
  iapply (pointsTo_split_subset (Finset.subset_univ (gSlot j).view.set)).1
  iexact H
theorem gAny_join (j : Fin 9) (f : Buf (Elt F) ((gSlot j).view.loc (c : Thread nD τ))) :
    iprop(gHas m c j ∗ ((gSlot j).view.loc (c : Thread nD τ) ↦[Finset.univ \ (gSlot j).view.set]{fullShare} f)) ⊢ gAny (F := F) c := by
  unfold gAny gHas
  iintro ⟨⟨%g, -, H⟩, H'⟩
  iexists _
  iapply (pointsTo_join_subset (Finset.subset_univ (gSlot j).view.set))
  isplitl [H]; · iexact H
  iexact H'
theorem argB_split (j : Fin 9) : argB (F := F) m c ⊣⊢ iprop(srcB m c j ∗ ((bSrc j).view.loc (c : Thread nD τ) ↦[Finset.univ \ (bSrc j).view.set]{fullShare} m ((bSrc j).view.loc (c : Thread nD τ)))) :=
  pointsTo_split_subset (Finset.subset_univ (bSrc j).view.set)

/-- A piece of the right operand: copied in, waited for, rounded, stored. -/
theorem op_pieceB (j : Fin 9) (l : List Due) (ha : Above 0 l) (hb : Below l) :
    iprop(Ctx m K ∗ bHas m c (pcol j) ∗ gAny c ∗ argB m c ∗ Ow c l ∗ atPos ER (cell c .locB) j.val ∅ 0 ∗ reached ER (cell c .locB) j.val ∗ dutyTok ER (cell c .locB) j.val 0)
      ⊢ iprop(((bHas m c (pcol j + pwid j) ∗ gAny c ∗ argB m c ∗ Ow c l ∗ atPos ER (cell c .locB) (j.val + 1) ∅ 0 ∗ reached ER (cell c .locB) (j.val + 1)) -∗ WPc c k Q)
        -∗ WPc c (pieceB j k) Q) := by
  unfold pieceB
  iintro ⟨#HC, Hb, Hg, Hs, HO, Hat, Hr, Ht⟩ Hk
  ihave Hg := (gAny_split c j) $$ Hg
  icases Hg with ⟨%fg, Hg, Hgr⟩
  ihave Hs := (argB_split m c j).1 $$ Hs
  icases Hs with ⟨Hs, Hsr⟩
  iapply (op_copyB m K c Q j _ fg) $$ [Hg Hs Ht Hr]
  · isplitr; · iapply (ctx_inv m K c .locB); iexact HC
    isplitl [Hs]; · unfold srcB; iexact Hs
    isplitl [Hg]; · iexact Hg
    isplitl [Ht]; · iexact Ht
    iexact Hr
  iintro Hcr
  iapply (op_waitB m K c Q j _ l ha hb) $$ [Hcr HO Hat]
  · isplitr; · iexact HC
    isplitl [Hcr]; · iexact Hcr
    isplitl [HO]; · iexact HO
    iexact Hat
  iintro ⟨HO, Hat, Hr, Hg, Hs⟩
  iapply (op_roundB m c Q k j) $$ [Hg Hb]
  · isplitl [Hg]; · iexact Hg
    iexact Hb
  iintro ⟨Hg, Hb⟩
  iapply Hk
  isplitl [Hb]; · iexact Hb
  isplitl [Hg Hgr]
  · iapply (gAny_join m c j fg)
    isplitl [Hg]; · iexact Hg
    iexact Hgr
  isplitl [Hs Hsr]
  · iapply (argB_split m c j).2
    isplitl [Hs]; · iexact Hs
    iexact Hsr
  isplitl [HO]; · iexact HO
  isplitl [Hat]; · iexact Hat
  iexact Hr

end Cert.RS
-- ==== Proof.Steps.lean ====
/-
# Rules for all streams and all systems

A rule at one stream gives the rule for the six, and likewise for the three systems; then the row chunks and the products of a step.
-/
module

public import proofs.«01_k».proof.Proof.Local

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F]

local notation "𝕄" => MT nD τ sig ℕ (Elt F) ℕ UU ℕ

variable (m : (ℓ : Loc nD τ sig) → Buf (Elt F) ℓ) (K : Dev nD × CK → ℕ)
variable (c : Dev nD) (Q : PUnit.{1} → sProp (MT nD τ sig ℕ (Elt F) ℕ UU ℕ)) (k : Pg F)

/-! ## The same program at every stream -/

theorem bigSep_six (A : Fin 6 → sProp 𝕄) : bigSep Finset.univ A = iprop(A 0 ∗ A 1 ∗ A 2 ∗ A 3 ∗ A 4 ∗ A 5) := by
  rw [bigSep_univ_eq_bigSepL [0, 1, 2, 3, 4, 5] (by decide) (by decide)]
  simp only [bigSepL_cons_cons, bigSepL_singleton]
  rfl
theorem bigSep_three (A : Fin 3 → sProp 𝕄) : bigSep Finset.univ A = iprop(A 0 ∗ A 1 ∗ A 2) := by
  rw [bigSep_univ_eq_bigSepL [0, 1, 2] (by decide) (by decide)]
  simp only [bigSepL_cons_cons, bigSepL_singleton]
  rfl

/-- A rule at one stream, with what is carried along counted by the streams done, is a rule for all. -/
theorem rule_each6 (f : Fin 6 → Pg F → Pg F) (C : ℕ → sProp 𝕄) (A B : Fin 6 → sProp 𝕄)
    (h : ∀ si k, iprop(C si.val ∗ A si) ⊢ iprop(((C (si.val + 1) ∗ B si) -∗ WPc c k Q) -∗ WPc c (f si k) Q)) :
    iprop(C 0 ∗ bigSep Finset.univ A) ⊢ iprop(((C 6 ∗ bigSep Finset.univ B) -∗ WPc c k Q) -∗ WPc c (each6 f k) Q) := by
  rw [bigSep_six, bigSep_six]
  have e (i : Fin 6) (n n' : ℕ) (hn : i.val = n) (hn' : n + 1 = n') (k) :
      iprop(C n ∗ A i) ⊢ iprop(((C n' ∗ B i) -∗ WPc c k Q) -∗ WPc c (f i k) Q) := by
    subst hn hn'; exact h i k
  unfold each6
  iintro ⟨HC, H0, H1, H2, H3, H4, H5⟩ Hk
  iapply (e 0 0 1 rfl rfl _) $$ [HC H0]; · isplitl [HC] <;> iassumption
  iintro ⟨HC, H0⟩
  iapply (e 1 1 2 rfl rfl _) $$ [HC H1]; · isplitl [HC] <;> iassumption
  iintro ⟨HC, H1⟩
  iapply (e 2 2 3 rfl rfl _) $$ [HC H2]; · isplitl [HC] <;> iassumption
  iintro ⟨HC, H2⟩
  iapply (e 3 3 4 rfl rfl _) $$ [HC H3]; · isplitl [HC] <;> iassumption
  iintro ⟨HC, H3⟩
  iapply (e 4 4 5 rfl rfl _) $$ [HC H4]; · isplitl [HC] <;> iassumption
  iintro ⟨HC, H4⟩
  iapply (e 5 5 6 rfl rfl _) $$ [HC H5]; · isplitl [HC] <;> iassumption
  iintro ⟨HC, H5⟩
  iapply Hk
  isplitl [HC]; · iexact HC
  isplitl [H0]; · iexact H0
  isplitl [H1]; · iexact H1
  isplitl [H2]; · iexact H2
  isplitl [H3]; · iexact H3
  isplitl [H4]; · iexact H4
  iexact H5

theorem rule_each3 (f : Fin 3 → Pg F → Pg F) (C : ℕ → sProp 𝕄) (A B : Fin 3 → sProp 𝕄)
    (h : ∀ y k, iprop(C y.val ∗ A y) ⊢ iprop(((C (y.val + 1) ∗ B y) -∗ WPc c k Q) -∗ WPc c (f y k) Q)) :
    iprop(C 0 ∗ bigSep Finset.univ A) ⊢ iprop(((C 3 ∗ bigSep Finset.univ B) -∗ WPc c k Q) -∗ WPc c (each3 f k) Q) := by
  rw [bigSep_three, bigSep_three]
  have e (i : Fin 3) (n n' : ℕ) (hn : i.val = n) (hn' : n + 1 = n') (k) :
      iprop(C n ∗ A i) ⊢ iprop(((C n' ∗ B i) -∗ WPc c k Q) -∗ WPc c (f i k) Q) := by
    subst hn hn'; exact h i k
  unfold each3
  iintro ⟨HC, H0, H1, H2⟩ Hk
  iapply (e 0 0 1 rfl rfl _) $$ [HC H0]; · isplitl [HC] <;> iassumption
  iintro ⟨HC, H0⟩
  iapply (e 1 1 2 rfl rfl _) $$ [HC H1]; · isplitl [HC] <;> iassumption
  iintro ⟨HC, H1⟩
  iapply (e 2 2 3 rfl rfl _) $$ [HC H2]; · isplitl [HC] <;> iassumption
  iintro ⟨HC, H2⟩
  iapply Hk
  isplitl [HC]; · iexact HC
  isplitl [H0]; · iexact H0
  isplitl [H1]; · iexact H1
  iexact H2

/-! ## What is owed along the way -/

theorem below_append {l l' : List Due} (h : Below l) (h' : Below l') : Below (l ++ l') := fun x hx => by
  rcases List.mem_append.mp hx with hx | hx
  · exact h x hx
  · exact h' x hx
theorem below_rdy {t : ℕ} (h : t ≤ 5) (l : List (Fin 6)) : Below (l.map (rdyD t)) := fun x hx => by
  obtain ⟨si, -, rfl⟩ := List.mem_map.mp hx; show 2 * t + 3 < 16; omega
theorem below_snd {t : ℕ} (h : t ≤ 6) (l : List (Fin 6)) : Below (l.map (sndD t)) := fun x hx => by
  obtain ⟨si, -, rfl⟩ := List.mem_map.mp hx; show 2 * t + 2 < 16; omega
theorem below_tail (n : ℕ) : ∀ t, t + n ≤ 6 → Below (tailD t n) := by
  induction n with
  | zero => exact fun _ _ x hx => absurd hx List.not_mem_nil
  | succ n ih => exact fun t h => below_append (below_rdy (by omega) _) (below_append (below_snd (by omega) _) (ih (t + 1) (by omega)))

theorem six_drop (si : Fin 6) : six.drop si.val = si :: six.drop (si.val + 1) := by revert si; decide

/-- The payments `g` still to be made, `n` streams done. -/
def left6 (g : Fin 6 → Due) (rest : List Due) (n : ℕ) : List Due := (six.drop n).map g ++ rest
theorem left6_step (g : Fin 6 → Due) (rest : List Due) (si : Fin 6) : left6 g rest si.val = g si :: left6 g rest (si.val + 1) := by
  unfold left6
  rw [six_drop]
  rfl

/-! ## The row chunks of a system -/

/-- A system's share of the left operand, whole and less the row chunk of round `u`. -/
def argA (y : Fin 3) : sProp 𝕄 := (c : Thread nD τ).loc main_arg0 ↦{qA y} m ((c : Thread nD τ).loc main_arg0)
def aRest (y : Fin 3) (u : ℕ) : sProp 𝕄 :=
  (aChunk c (mTab y u)).view.loc (c : Thread nD τ) ↦[Finset.univ \ (aChunk c (mTab y u)).view.set]{qA y} m ((aChunk c (mTab y u)).view.loc (c : Thread nD τ))
theorem argA_split (y : Fin 3) (u : ℕ) : argA (F := F) m c y ⊣⊢ iprop(srcA m c y (mTab y u) ∗ aRest m c y u) :=
  pointsTo_split_subset (Finset.subset_univ (aChunk c (mTab y u)).view.set)

def aAny (y : Fin 3) : sProp 𝕄 := iprop(∃ f, aPts c y f)
theorem aHas_any (y : Fin 3) (e : Fin 8) : aHas (F := F) m c y e ⊢ aAny c y := by
  unfold aHas aAny
  iintro ⟨%f, -, H⟩
  iexists f; iexact H

/-- The tokens of `n` copies from round `u` on. -/
def aToks (y : Fin 3) (u : ℕ) : ℕ → sProp 𝕄
  | 0 => iprop(emp)
  | n + 1 => iprop(dutyTok ER (cell c (.locA y)) u 0 ∗ aToks y (u + 1) n)

theorem aToks_succ (y : Fin 3) (u n : ℕ) : aToks (F := F) c y u (n + 1) = iprop(dutyTok ER (cell c (.locA y)) u 0 ∗ aToks c y (u + 1) n) := rfl

/-- A system about to copy round `u`; waiting for it; holding it. -/
def aIdle (y : Fin 3) (u n : ℕ) : sProp 𝕄 :=
  iprop(aAny c y ∗ argA m c y ∗ atPos ER (cell c (.locA y)) u ∅ 0 ∗ reached ER (cell c (.locA y)) u ∗ aToks c y u n)
def aWait (y : Fin 3) (u n : ℕ) : sProp 𝕄 :=
  iprop(aCred c y ∗ aRest m c y u ∗ atPos ER (cell c (.locA y)) u ∅ 0 ∗ aToks c y (u + 1) n)
def aKeep (y : Fin 3) (u n : ℕ) : sProp 𝕄 :=
  iprop(argA m c y ∗ atPos ER (cell c (.locA y)) (u + 1) ∅ 0 ∗ reached ER (cell c (.locA y)) (u + 1) ∗ aToks c y (u + 1) n)

theorem aKeep_idle (y : Fin 3) (u n : ℕ) (e : Fin 8) : iprop(aHas m c y e ∗ aKeep m c y u n) ⊢ aIdle (F := F) m c y (u + 1) n := by
  unfold aKeep aIdle
  iintro ⟨Ha, H1, H2, H3, H4⟩
  isplitl [Ha]; · iapply (aHas_any m c y e); iexact Ha
  isplitl [H1]; · iexact H1
  isplitl [H2]; · iexact H2
  isplitl [H3]; · iexact H3
  iexact H4

theorem op_chunk (y : Fin 3) (u n : ℕ) (hu : u ≤ 7) :
    iprop(Ctx m K ∗ aIdle m c y u (n + 1)) ⊢ iprop(((Ctx m K ∗ aWait m c y u n) -∗ WPc c k Q) -∗ WPc c (copyA c y (mTab y u) k) Q) := by
  unfold aIdle aWait
  rw [aToks_succ]
  iintro ⟨#HC, Ha, Hs, Hat, Hr, Ht, Hts⟩ Hk
  ihave Hs := (argA_split m c y u).1 $$ Hs
  icases Hs with ⟨Hs, Hsr⟩
  iapply (op_copyA m K c Q k y u hu) $$ [Ha Hs Ht Hr]
  · isplitr; · iexact HC
    isplitl [Ha]; · unfold aAny; iexact Ha
    isplitl [Hs]; · iexact Hs
    isplitl [Ht]; · iexact Ht
    iexact Hr
  iintro Hc
  iapply Hk
  isplitr; · iexact HC
  isplitl [Hc]; · iexact Hc
  isplitl [Hsr]; · iexact Hsr
  isplitl [Hat]; · iexact Hat
  iexact Hts

theorem op_arrived (y : Fin 3) (u n : ℕ) (hu : u ≤ 7) (src : Memref sig .tc .hbm S512x2048 .f32) (l : List Due) (ha : Above 0 l) (hb : Below l) :
    iprop((Ctx m K ∗ Ow c l) ∗ aWait m c y u n)
      ⊢ iprop((((Ctx m K ∗ Ow c l) ∗ aHas m c y (mTab y u) ∗ aKeep m c y u n) -∗ WPc c k Q) -∗ WPc c (waitA y src k) Q) := by
  unfold aWait aKeep
  iintro ⟨⟨#HC, HO⟩, Hc, Hsr, Hat, Hts⟩ Hk
  iapply (op_waitA m K c Q k y u hu src l ha hb) $$ [Hc HO Hat]
  · isplitr; · iexact HC
    isplitl [Hc]; · iexact Hc
    isplitl [HO]; · iexact HO
    iexact Hat
  iintro ⟨HO, Hat, Hr, Ha, Hs⟩
  iapply Hk
  isplitl [HO]
  · isplitr; · iexact HC
    iexact HO
  isplitl [Ha]; · iexact Ha
  isplitl [Hs Hsr]
  · iapply (argA_split m c y u).2
    isplitl [Hs]; · iexact Hs
    iexact Hsr
  isplitl [Hat]; · iexact Hat
  isplitl [Hr]; · iexact Hr
  iexact Hts

/-! ## The products of a step -/

theorem borrow_three (A : Fin 3 → sProp 𝕄) (y : Fin 3) : bigSep Finset.univ A ⊢ iprop(A y ∗ (A y -∗ bigSep Finset.univ A)) := by
  rw [bigSep_three]
  iintro ⟨H0, H1, H2⟩
  obtain rfl | rfl | rfl : y = 0 ∨ y = 1 ∨ y = 2 := by revert y; decide
  · isplitl [H0]; · iexact H0
    iintro H0
    isplitl [H0]; · iexact H0
    isplitl [H1]; · iexact H1
    iexact H2
  · isplitl [H1]; · iexact H1
    iintro H1
    isplitl [H0]; · iexact H0
    isplitl [H1]; · iexact H1
    iexact H2
  · isplitl [H2]; · iexact H2
    iintro H2
    isplitl [H0]; · iexact H0
    isplitl [H1]; · iexact H1
    iexact H2

/-- The row chunks of round `u`, held. -/
def aAll (u : ℕ) : sProp 𝕄 := bigSep Finset.univ fun y : Fin 3 => aHas m c y (mTab y u)

theorem op_dotAll (si : Fin 6) (u : ℕ) :
    iprop((aAll m c u ∗ bHas m c 4096 ∗ pHas m c u si.val) ∗ emp)
      ⊢ iprop((((aAll m c u ∗ bHas m c 4096 ∗ pHas m c u (si.val + 1)) ∗ emp) -∗ WPc c k Q) -∗ WPc c (dotP si k) Q) := by
  unfold aAll
  iintro ⟨⟨Ha, Hb, Hp⟩, -⟩ Hk
  ihave Ha := (borrow_three (F := F) (fun y : Fin 3 => aHas m c y (mTab y u)) (sysOf si)) $$ Ha
  icases Ha with ⟨Ha, Hback⟩
  iapply (op_dotP m c Q k si u) $$ [Ha Hb Hp]
  · isplitl [Ha]; · iexact Ha
    isplitl [Hb]; · iexact Hb
    iexact Hp
  iintro ⟨Ha, Hb, Hp⟩
  iapply Hk
  isplitl [Ha Hback Hb Hp]
  · isplitl [Ha Hback]; · iapply Hback; iexact Ha
    isplitl [Hb]; · iexact Hb
    iexact Hp
  iempintro

/-- Wait for the row chunks of round `u`, multiply every stream's columns. -/
theorem op_dots (u n : ℕ) (hu : u ≤ 7) (l : List Due) (ha : Above 0 l) (hb : Below l) (t' n' : ℕ) :
    iprop(Ctx m K ∗ Ow c l ∗ bHas m c 4096 ∗ pHas m c t' n' ∗ bigSep Finset.univ fun y : Fin 3 => aWait m c y u n)
      ⊢ iprop(((Ow c l ∗ bHas m c 4096 ∗ pHas m c u 6 ∗ aAll m c u ∗ bigSep Finset.univ fun y : Fin 3 => aKeep m c y u n) -∗ WPc c k Q) -∗ WPc c (dotsP k) Q) := by
  unfold dotsP
  iintro ⟨#HC, HO, Hb, Hp, Hw⟩ Hk
  iapply (rule_each3 c Q _ (fun y => waitA y aZero) (fun _ => iprop(Ctx m K ∗ Ow c l)) (fun y => aWait m c y u n)
    (fun y => iprop(aHas m c y (mTab y u) ∗ aKeep m c y u n)) (fun y k => op_arrived m K c Q k y u n hu aZero l ha hb)) $$ [HO Hw]
  · isplitl [HO]
    · isplitr; · iexact HC
      iexact HO
    iexact Hw
  iintro ⟨⟨-, HO⟩, Hw⟩
  ihave Hw := (Entails.of_eq (bigSep_sep' Finset.univ (fun y : Fin 3 => aHas m c y (mTab y u)) (fun y => aKeep m c y u n))) $$ Hw
  icases Hw with ⟨Ha, Hw⟩
  iapply (rule_each6 c Q k dotP (fun i => iprop(aAll m c u ∗ bHas m c 4096 ∗ pHas m c u i)) (fun _ => iprop(emp)) (fun _ => iprop(emp))
    (fun si k => op_dotAll m c Q k si u)) $$ [Ha Hb Hp]
  · isplitl [Ha Hb Hp]
    · isplitl [Ha]; · unfold aAll; iexact Ha
      isplitl [Hb]; · iexact Hb
      iapply (pHas_start m c t' u n'); iexact Hp
    rw [bigSep_six]
    isplitr; · iempintro
    isplitr; · iempintro
    isplitr; · iempintro
    isplitr; · iempintro
    isplitr; · iempintro
    iempintro
  iintro ⟨⟨Ha, Hb, Hp⟩, -⟩
  iapply Hk
  isplitl [HO]; · iexact HO
  isplitl [Hb]; · iexact Hb
  isplitl [Hp]; · iexact Hp
  isplitl [Ha]; · iexact Ha
  iexact Hw

end Cert.RS
-- ==== Proof.Run.lean ====
/-
# The steps

One step of the exchange at one stream, a step of all streams, and the last step: what a device holds before and after.
-/
module

public import proofs.«01_k».proof.Proof.Steps

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F]

local notation "𝕄" => MT nD τ sig ℕ (Elt F) ℕ UU ℕ

variable (m : (ℓ : Loc nD τ sig) → Buf (Elt F) ℓ) (K : Dev nD × CK → ℕ)
variable (c : Dev nD) (Q : PUnit.{1} → sProp (MT nD τ sig ℕ (Elt F) ℕ UU ℕ)) (k : Pg F)

/-! ## What a device holds of a stream -/

/-- The device a stream is sent to at step `t`. -/
abbrev nbr (si : Fin 6) (t : ℕ) : Dev nD := nb c (eTab (sysOf si) t)

/-- The two tokens of the send of step `t`. -/
def sndToks (si : Fin 6) (t : ℕ) : sProp 𝕄 :=
  iprop(dutyTok ER (cell c (.snd si (sl t))) (t / 2) 0 ∗ dutyTok ER (cell (nbr c si t) (.rcv si (sl (t + 1)))) (t / 2) 0)
/-- The token of the release of step `t`. -/
def rdyTok (si : Fin 6) (t : ℕ) : sProp 𝕄 := dutyTok ER (cell (nbr c si (t + 1)) (.rdy si (sl t))) (t / 2) 0

/-- What is needed from step `t` on, `n` steps before the last. -/
def fuel (si : Fin 6) (t : ℕ) : ℕ → sProp 𝕄
  | 0 => rCred c si t
  | n + 1 => iprop(rCred c si t ∗ yCred c si t ∗ rdyTok c si t ∗ sndToks c si (t + 1) ∗ fuel si (t + 1) n)
theorem fuel_succ (si : Fin 6) (t n : ℕ) :
    fuel (F := F) c si t (n + 1) = iprop(rCred c si t ∗ yCred c si t ∗ rdyTok c si t ∗ sndToks c si (t + 1) ∗ fuel c si (t + 1) n) := rfl

/-- A stream whose send of step `t` is under way. -/
def strS (si : Fin 6) (t n : ℕ) : sProp 𝕄 :=
  iprop(sCred c si t ∗ sAt c si t ∗ sAt c si (t + 1) ∗ rAt c si t ∗ rAt c si (t + 1) ∗ yAt c si t ∗ yAt c si (t + 1) ∗ sRch c si (t + 1) ∗ rRch c si (t + 1) ∗ fuel c si t n)
/-- A stream that has released the slot of step `t`. -/
def strR (si : Fin 6) (t n : ℕ) : sProp 𝕄 :=
  iprop(sAt c si (t + 1) ∗ sAt c si (t + 2) ∗ rAt c si t ∗ rAt c si (t + 1) ∗ yAt c si t ∗ yAt c si (t + 1) ∗ sRch c si (t + 1) ∗ sRch c si (t + 2)
    ∗ rCred c si t ∗ yCred c si t ∗ sndToks c si (t + 1) ∗ fuel c si (t + 1) n)

/-- How far the release semaphores of a device have come, all streams. -/
def yAll (c : Dev nD) (t : ℕ) : sProp 𝕄 := bigSep Finset.univ fun si : Fin 6 => yRch c si t
/-- The same of the three neighbours. -/
def nAll (t : ℕ) : sProp 𝕄 := bigSep Finset.univ fun y : Fin 3 => yAll (nb c (eTab y t)) t
instance yRch_persistent (c : Dev nD) (si : Fin 6) (t : ℕ) : BI.Persistent (yRch (F := F) c si t) := by unfold yRch; infer_instance
instance yAll_persistent (c : Dev nD) (t : ℕ) : BI.Persistent (yAll (F := F) c t) := by unfold yAll; infer_instance
instance nAll_persistent (t : ℕ) : BI.Persistent (nAll (F := F) c t) := by unfold nAll; infer_instance

theorem next_mask (si : Fin 6) (t : ℕ) (ht : t ≤ 5) : ∃ y : Fin 3, eTab (sysOf si) (t + 1) = eTab y t := by
  have h : ∀ t : Fin 6, ∃ y : Fin 3, eTab (sysOf si) (t.val + 1) = eTab y t.val := by revert si; decide
  exact h ⟨t, by omega⟩
theorem nAll_at (si : Fin 6) (t : ℕ) (ht : t ≤ 5) : nAll (F := F) c t ⊢ yRch (nbr c si (t + 1)) si t := by
  obtain ⟨y, hy⟩ := next_mask si t ht
  show nAll (F := F) c t ⊢ yRch (nb c (eTab (sysOf si) (t + 1))) si t
  rw [hy]
  exact (bigSep_elim (Φ := fun y : Fin 3 => yAll (F := F) (nb c (eTab y t)) t) (Finset.mem_univ y)).trans
    (bigSep_elim (Φ := fun si : Fin 6 => yRch (F := F) (nb c (eTab y t)) si t) (Finset.mem_univ si))

/-! ## A step at one stream -/

/-- The send of step `t` done: its slot goes to the neighbour of the next. -/
theorem op_release (si : Fin 6) (t n : ℕ) (ht : t ≤ 5) (rest : List Due) (ha : Above 0 rest) (hb : Below rest) :
    iprop((Ctx m K ∗ yAll c (t + 1) ∗ nAll c t ∗ Ow c (left6 (rdyD t) rest si.val)) ∗ strS c si t (n + 1))
      ⊢ iprop((((Ctx m K ∗ yAll c (t + 1) ∗ nAll c t ∗ Ow c (left6 (rdyD t) rest (si.val + 1))) ∗ strR c si t n) -∗ WPc c k Q)
        -∗ WPc c (waitS si (sl t) (sl (t + 1)) (rdySig c si (sl t) (eTab (sysOf si) (t + 1)) k)) Q) := by
  unfold strS strR
  rw [fuel_succ]
  iintro ⟨⟨#HC, #Hy, #Hn, HO⟩, Hc, Hs, Hs1, Hr, Hr1, Hya, Hy1, HsR, HrR, Hrc, Hyc, Ht, Hts, Hf⟩ Hk
  iapply (op_waitS m K c Q _ si t (by omega) (sl (t + 1)) (left6 (rdyD t) rest si.val) ((above_rdy (by omega) _).append ha) (below_append (below_rdy ht _) hb)) $$ [Hc HO Hs]
  · isplitr; · iexact HC
    isplitl [Hc]; · iexact Hc
    isplitl [HO]; · iexact HO
    iexact Hs
  iintro ⟨HO, Hs, HsR2, Hslot⟩
  rw [left6_step (rdyD t) rest si]
  unfold rdyTok nbr
  iapply (op_rdySig m K c Q k si t ht (left6 (rdyD t) rest (si.val + 1))) $$ [HO Ht Hslot HrR]
  · isplitr; · iexact HC
    isplitl [HO]; · iexact HO
    isplitl [Ht]; · iexact Ht
    isplitr; · iapply (nAll_at c si t ht); iexact Hn
    isplitl [Hslot]; · iexact Hslot
    isplitl [HrR]; · iexact HrR
    unfold yAll; iexact Hy
  iintro HO
  iapply Hk
  isplitl [HO]
  · isplitr; · iexact HC
    isplitr; · iexact Hy
    isplitr; · iexact Hn
    iexact HO
  isplitl [Hs1]; · iexact Hs1
  isplitl [Hs]; · iexact Hs
  isplitl [Hr]; · iexact Hr
  isplitl [Hr1]; · iexact Hr1
  isplitl [Hya]; · iexact Hya
  isplitl [Hy1]; · iexact Hy1
  isplitl [HsR]; · iexact HsR
  isplitl [HsR2]; · iexact HsR2
  isplitl [Hrc]; · iexact Hrc
  isplitl [Hyc]; · iexact Hyc
  isplitl [Hts]; · iexact Hts
  iexact Hf

/-- What landed at step `t`, plus the local product, sent on. -/
theorem op_forward (si : Fin 6) (t n : ℕ) (ht : t ≤ 5) (rest : List Due) (ha : Above (2 * t + 3) rest) (hb : Below rest) :
    iprop((Ctx m K ∗ pHas m c (t + 1) 6 ∗ Ow c (left6 (sndD (t + 1)) rest si.val)) ∗ strR c si t n)
      ⊢ iprop((((Ctx m K ∗ pHas m c (t + 1) 6 ∗ Ow c (left6 (sndD (t + 1)) rest (si.val + 1)))
            ∗ strS c si (t + 1) n ∗ yRch c si (t + 2) ∗ yAll (nbr c si (t + 1)) (t + 1)) -∗ WPc c k Q)
        -∗ WPc c (waitR si (sl t) (sl (t + 1)) (addP si (sl (t + 1)) (rdyWait si (sl t) (sendP c si (sl (t + 1)) (sl t) (eTab (sysOf si) (t + 1)) k)))) Q) := by
  have ha' : Above (2 * t + 3) (left6 (sndD (t + 1)) rest si.val) := (above_snd (by omega) _).append ha
  have hb' : Below (left6 (sndD (t + 1)) rest si.val) := below_append (below_snd (by omega) _) hb
  unfold strS strR sndToks nbr
  iintro ⟨⟨#HC, Hp, HO⟩, Hs1, Hs2, Hr, Hr1, Hy, Hy1, HsR1, HsR2, Hrc, Hyc, ⟨Ht1, Ht2⟩, Hf⟩ Hk
  iapply (op_waitR m K c Q _ si t (by omega) (sl t) (left6 (sndD (t + 1)) rest si.val) (ha'.mono (by omega)) hb') $$ [Hrc HO Hr]
  · isplitr; · iexact HC
    isplitl [Hrc]; · iexact Hrc
    isplitl [HO]; · iexact HO
    iexact Hr
  iintro ⟨HO, Hr2, HrR2, Hslot⟩
  iapply (op_addP m c Q _ si (t + 1) (sl (t + 1)) _) $$ [Hslot Hp]
  · isplitl [Hslot]; · iexact Hslot
    iexact Hp
  rw [← X_succ m c si t]
  iintro ⟨Hslot, Hp⟩
  iapply (op_rdyWait m K c Q _ si t ht (left6 (sndD (t + 1)) rest si.val) ha' hb') $$ [Hyc HO Hy]
  · isplitr; · iexact HC
    isplitl [Hyc]; · iexact Hyc
    isplitl [HO]; · iexact HO
    iexact Hy
  unfold rdyPay
  iintro ⟨HO, Hy2, HyR2, Hdst, HrN, HyN⟩
  rw [left6_step (sndD (t + 1)) rest si, ← sl_two t]
  iapply (op_sendP m K c Q k si (t + 1) (by omega) (sl (t + 1)) (sl (t + 2)) rfl rfl (left6 (sndD (t + 1)) rest (si.val + 1))) $$ [Hslot Hdst HO Ht1 HsR1 Ht2 HrN]
  · isplitr; · iexact HC
    isplitl [Hslot]; · iexact Hslot
    isplitl [Hdst]; · iexact Hdst
    isplitl [HO]; · iexact HO
    isplitl [Ht1]; · iexact Ht1
    isplitl [HsR1]; · iexact HsR1
    isplitl [Ht2]; · iexact Ht2
    iexact HrN
  iintro ⟨Hc, HO⟩
  iapply Hk
  isplitl [Hp HO]
  · isplitr; · iexact HC
    isplitl [Hp]; · iexact Hp
    iexact HO
  isplitr [HyR2 HyN]
  · isplitl [Hc]; · iexact Hc
    isplitl [Hs1]; · iexact Hs1
    isplitl [Hs2]; · iexact Hs2
    isplitl [Hr1]; · iexact Hr1
    isplitl [Hr2]; · iexact Hr2
    isplitl [Hy1]; · iexact Hy1
    isplitl [Hy2]; · iexact Hy2
    isplitl [HsR2]; · iexact HsR2
    isplitl [HrR2]; · iexact HrR2
    iexact Hf
  isplitl [HyR2]; · iexact HyR2
  unfold yAll; iexact HyN

/-! ## A step -/

/-- What a device holds before step `t`, `n` steps before the last. -/
def St (t n : ℕ) : sProp 𝕄 :=
  iprop(Ow c (tailD t n) ∗ bHas m c 4096 ∗ (∃ t' n', pHas m c t' n') ∗ (bigSep Finset.univ fun y : Fin 3 => aWait m c y (t + 1) n)
    ∗ (bigSep Finset.univ fun si : Fin 6 => strS c si t n) ∗ yAll c (t + 1) ∗ nAll c t)

theorem nAll_next (t : ℕ) : (bigSep Finset.univ fun si : Fin 6 => yAll (F := F) (nbr c si t) t) ⊢ nAll c t := by
  unfold nAll
  rw [bigSep_six, bigSep_three]
  iintro ⟨H0, H1, H2, -⟩
  isplitl [H0]; · iexact H0
  isplitl [H1]; · iexact H1
  iexact H2

theorem keep_all (u n : ℕ) :
    iprop(aAll m c u ∗ bigSep Finset.univ fun y : Fin 3 => aKeep m c y u n) ⊢ bigSep Finset.univ fun y : Fin 3 => aIdle (F := F) m c y (u + 1) n := by
  unfold aAll
  refine (Entails.of_eq (bigSep_sep' Finset.univ (fun y : Fin 3 => aHas m c y (mTab y u)) (fun y => aKeep m c y u n)).symm).trans ?_
  exact bigSep_mono fun y _ => aKeep_idle m c y u n (mTab y u)

theorem op_step (t n : ℕ) (ht : t + (n + 1) = 6) :
    iprop(Ctx m K ∗ St m c t (n + 1)) ⊢ iprop(((Ctx m K ∗ St m c (t + 1) n) -∗ WPc c k Q) -∗ WPc c (stepP c t k) Q) := by
  unfold stepP St
  iintro ⟨#HC, HO, Hb, ⟨%t', %n', Hp⟩, Ha, Hs, #Hy, #Hn⟩ Hk
  iapply (op_dots m K c Q _ (t + 1) (n + 1) (by omega) (tailD t (n + 1)) (above_tail _ t (by omega)) (below_tail _ t (by omega)) t' n') $$ [HO Hb Hp Ha]
  · isplitr; · iexact HC
    isplitl [HO]; · iexact HO
    isplitl [Hb]; · iexact Hb
    isplitl [Hp]; · iexact Hp
    iexact Ha
  iintro ⟨HO, Hb, Hp, Ha, Hak⟩
  ihave Ha := (keep_all m c (t + 1) (n + 1)) $$ [Ha Hak]
  · isplitl [Ha]; · iexact Ha
    iexact Hak
  iapply (rule_each3 c Q _ (fun y => copyA c y (mTab y (t + 2))) (fun _ => Ctx m K) (fun y => aIdle m c y (t + 2) (n + 1))
    (fun y => aWait m c y (t + 2) n) (fun y k => op_chunk m K c Q k y (t + 2) n (by omega))) $$ [Ha]
  · isplitr; · iexact HC
    iexact Ha
  iintro ⟨-, Ha⟩
  iapply (rule_each6 c Q _ (fun si k => waitS si (sl t) (sl (t + 1)) (rdySig c si (sl t) (eTab (sysOf si) (t + 1)) k))
    (fun i => iprop(Ctx m K ∗ yAll c (t + 1) ∗ nAll c t ∗ Ow c (left6 (rdyD t) (six.map (sndD (t + 1)) ++ tailD (t + 1) n) i)))
    (fun si => strS c si t (n + 1)) (fun si => strR c si t n)
    (fun si k => op_release m K c Q k si t n (by omega) _ ((above_snd (by omega) _).append (above_tail _ _ (by omega)))
      (below_append (below_snd (by omega) _) (below_tail _ _ (by omega))))) $$ [HO Hs]
  · isplitl [HO]
    · isplitr; · iexact HC
      isplitr; · iexact Hy
      isplitr; · iexact Hn
      iexact HO
    iexact Hs
  iintro ⟨⟨-, -, -, HO⟩, Hs⟩
  iapply (rule_each6 c Q _ (fun si k => waitR si (sl t) (sl (t + 1)) (addP si (sl (t + 1)) (rdyWait si (sl t) (sendP c si (sl (t + 1)) (sl t) (eTab (sysOf si) (t + 1)) k))))
    (fun i => iprop(Ctx m K ∗ pHas m c (t + 1) 6 ∗ Ow c (left6 (sndD (t + 1)) (tailD (t + 1) n) i)))
    (fun si => strR c si t n) (fun si => iprop(strS c si (t + 1) n ∗ yRch c si (t + 2) ∗ yAll (nbr c si (t + 1)) (t + 1)))
    (fun si k => op_forward m K c Q k si t n (by omega) _ (above_tail _ _ (by omega)) (below_tail _ _ (by omega)))) $$ [Hp HO Hs]
  · isplitl [Hp HO]
    · isplitr; · iexact HC
      isplitl [Hp]; · iexact Hp
      iexact HO
    iexact Hs
  iintro ⟨⟨-, Hp, HO⟩, Hs⟩
  ihave Hs := (Entails.of_eq (bigSep_sep' Finset.univ (fun si : Fin 6 => strS c si (t + 1) n) (fun si => iprop(yRch c si (t + 2) ∗ yAll (nbr c si (t + 1)) (t + 1))))) $$ Hs
  icases Hs with ⟨Hs, HyN⟩
  ihave HyN := (Entails.of_eq (bigSep_sep' Finset.univ (fun si : Fin 6 => yRch c si (t + 2)) (fun si => yAll (nbr c si (t + 1)) (t + 1)))) $$ HyN
  icases HyN with ⟨HyO, HyN⟩
  iapply Hk
  isplitr; · iexact HC
  isplitl [HO]; · iexact HO
  isplitl [Hb]; · iexact Hb
  isplitl [Hp]; · iexists (t + 1), 6; iexact Hp
  isplitl [Ha]; · iexact Ha
  isplitl [Hs]; · iexact Hs
  isplitl [HyO]; · unfold yAll; iexact HyO
  iapply (nAll_next c (t + 1)); iexact HyN

/-! ## The last step -/

/-- A stream at the end: both slots back, every semaphore past its last round. -/
def strEnd (si : Fin 6) : sProp 𝕄 :=
  iprop(sAt c si 7 ∗ sAt c si 8 ∗ rAt c si 7 ∗ rAt c si 8 ∗ yAt c si 6 ∗ yAt c si 7 ∗ slotAny c si 0 ∗ slotAny c si 1)
/-- A stream whose last send is done. -/
def strL (si : Fin 6) : sProp 𝕄 :=
  iprop(sAt c si 7 ∗ sAt c si 8 ∗ rAt c si 6 ∗ rAt c si 7 ∗ yAt c si 6 ∗ yAt c si 7 ∗ rCred c si 6 ∗ slotAny c si 0)

theorem op_lastS (si : Fin 6) :
    iprop((Ctx m K ∗ Ow c []) ∗ strS c si 6 0) ⊢ iprop((((Ctx m K ∗ Ow c []) ∗ strL c si) -∗ WPc c k Q) -∗ WPc c (waitS si 0 1 k) Q) := by
  unfold strS strL fuel
  iintro ⟨⟨#HC, HO⟩, Hc, Hs, Hs1, Hr, Hr1, Hy, Hy1, -, -, Hrc⟩ Hk
  iapply (op_waitS m K c Q k si 6 (by omega) 1 [] Above.nil (below_tail 0 6 (by omega))) $$ [Hc HO Hs]
  · isplitr; · iexact HC
    isplitl [Hc]; · iexact Hc
    isplitl [HO]; · iexact HO
    iexact Hs
  iintro ⟨HO, Hs, -, Hslot⟩
  iapply Hk
  isplitl [HO]
  · isplitr; · iexact HC
    iexact HO
  isplitl [Hs1]; · iexact Hs1
  isplitl [Hs]; · iexact Hs
  isplitl [Hr]; · iexact Hr
  isplitl [Hr1]; · iexact Hr1
  isplitl [Hy]; · iexact Hy
  isplitl [Hy1]; · iexact Hy1
  isplitl [Hrc]; · iexact Hrc
  iexact Hslot

theorem op_lastR (si : Fin 6) :
    iprop((Ctx m K ∗ Ow c [] ∗ pHas m c 7 6 ∗ oHas m c si.val) ∗ strL c si)
      ⊢ iprop((((Ctx m K ∗ Ow c [] ∗ pHas m c 7 6 ∗ oHas m c (si.val + 1)) ∗ strEnd c si) -∗ WPc c k Q) -∗ WPc c (waitR si 0 1 (outP si 1 k)) Q) := by
  unfold strL strEnd
  iintro ⟨⟨#HC, HO, Hp, Ho⟩, Hs1, Hs, Hr, Hr1, Hy, Hy1, Hrc, Hslot⟩ Hk
  iapply (op_waitR m K c Q _ si 6 (by omega) 0 [] Above.nil (below_tail 0 6 (by omega))) $$ [Hrc HO Hr]
  · isplitr; · iexact HC
    isplitl [Hrc]; · iexact Hrc
    isplitl [HO]; · iexact HO
    iexact Hr
  iintro ⟨HO, Hr, -, Hl⟩
  iapply (op_outP m c Q k si 1) $$ [Hl Hp Ho]
  · isplitl [Hl]; · iexact Hl
    isplitl [Hp]; · iexact Hp
    iexact Ho
  iintro ⟨Hl, Hp, Ho⟩
  iapply Hk
  isplitl [HO Hp Ho]
  · isplitr; · iexact HC
    isplitl [HO]; · iexact HO
    isplitl [Hp]; · iexact Hp
    iexact Ho
  isplitl [Hs1]; · iexact Hs1
  isplitl [Hs]; · iexact Hs
  isplitl [Hr1]; · iexact Hr1
  isplitl [Hr]; · iexact Hr
  isplitl [Hy]; · iexact Hy
  isplitl [Hy1]; · iexact Hy1
  isplitl [Hslot]; · iexact Hslot
  iexact Hl

/-- What a device holds at the end. -/
def End : sProp 𝕄 :=
  iprop(Ow c [] ∗ bHas m c 4096 ∗ pHas m c 7 6 ∗ oHas m c 6 ∗ (bigSep Finset.univ fun y : Fin 3 => aIdle m c y 8 0)
    ∗ bigSep Finset.univ fun si : Fin 6 => strEnd c si)

theorem op_last : iprop(Ctx m K ∗ St m c 6 0 ∗ oHas m c 0) ⊢ iprop((End m c -∗ WPc c k Q) -∗ WPc c (lastP k) Q) := by
  unfold lastP St End
  iintro ⟨#HC, ⟨HO, Hb, ⟨%t', %n', Hp⟩, Ha, Hs, -, -⟩, Ho⟩ Hk
  iapply (op_dots m K c Q _ 7 0 (by omega) [] Above.nil (below_tail 0 6 (by omega)) t' n') $$ [HO Hb Hp Ha]
  · isplitr; · iexact HC
    isplitl [HO]; · iexact HO
    isplitl [Hb]; · iexact Hb
    isplitl [Hp]; · iexact Hp
    iexact Ha
  iintro ⟨HO, Hb, Hp, Ha, Hak⟩
  ihave Ha := (keep_all m c 7 0) $$ [Ha Hak]
  · isplitl [Ha]; · iexact Ha
    iexact Hak
  iapply (rule_each6 c Q _ (fun si => waitS si 0 1) (fun _ => iprop(Ctx m K ∗ Ow c [])) (fun si => strS c si 6 0) (fun si => strL c si)
    (fun si k => op_lastS m K c Q k si)) $$ [HO Hs]
  · isplitl [HO]
    · isplitr; · iexact HC
      iexact HO
    iexact Hs
  iintro ⟨⟨-, HO⟩, Hs⟩
  iapply (rule_each6 c Q _ (fun si k => waitR si 0 1 (outP si 1 k)) (fun i => iprop(Ctx m K ∗ Ow c [] ∗ pHas m c 7 6 ∗ oHas m c i)) (fun si => strL c si) (fun si => strEnd c si)
    (fun si k => op_lastR m K c Q k si)) $$ [HO Hp Ho Hs]
  · isplitl [HO Hp Ho]
    · isplitr; · iexact HC
      isplitl [HO]; · iexact HO
      isplitl [Hp]; · iexact Hp
      iexact Ho
    iexact Hs
  iintro ⟨⟨-, HO, Hp, Ho⟩, Hs⟩
  iapply Hk
  isplitl [HO]; · iexact HO
  isplitl [Hb]; · iexact Hb
  isplitl [Hp]; · iexact Hp
  isplitl [Ho]; · iexact Ho
  isplitl [Ha]; · iexact Ha
  iexact Hs

end Cert.RS
-- ==== Proof.Start.lean ====
/-
# The whole body

The barrier, the pieces of the right operand, the first products and sends; then all steps.
-/
module

public import proofs.«01_k».proof.Proof.Run

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F]

local notation "𝕄" => MT nD τ sig ℕ (Elt F) ℕ UU ℕ

variable (m : (ℓ : Loc nD τ sig) → Buf (Elt F) ℓ) (K : Dev nD × CK → ℕ)
variable (c : Dev nD) (Q : PUnit.{1} → sProp (MT nD τ sig ℕ (Elt F) ℕ UU ℕ)) (k : Pg F)

/-! ## Before the first step -/

/-- Where the semaphores of a stream stand at first, and what it needs. -/
def strAt (si : Fin 6) : sProp 𝕄 :=
  iprop(sAt c si 0 ∗ sAt c si 1 ∗ rAt c si 0 ∗ rAt c si 1 ∗ yAt c si 0 ∗ yAt c si 1 ∗ sndToks c si 0 ∗ fuel c si 0 6)
/-- A stream after the barrier: its own first slot, and the neighbour's second. -/
def strB (si : Fin 6) : sProp 𝕄 := iprop(slotAny c si 0 ∗ slotAny (nbr c si 0) si 1 ∗ strAt c si)

theorem bigSep_pair {i j : Fin 6} (h : i ∉ ({j} : Finset (Fin 6))) (A : Fin 6 → sProp 𝕄) : bigSep {i, j} A = iprop(A i ∗ A j) := by
  rw [BI.bigSep_insert h, bigSep_singleton]
  rfl
theorem bigSep_masks (A : Fin 8 → sProp 𝕄) : bigSep {1, 2, 4} A = iprop(A 1 ∗ A 2 ∗ A 4) := by
  rw [BI.bigSep_insert (by decide), BI.bigSep_insert (by decide), bigSep_singleton]
  rfl

/-- The streams sorted by their first neighbour. -/
theorem by_mask (A : Fin 6 → sProp 𝕄) :
    bigSep Finset.univ A ⊣⊢ iprop(bigSep (Finset.univ.filter fun si : Fin 6 => eTab (sysOf si) 0 = 1) A
      ∗ bigSep (Finset.univ.filter fun si : Fin 6 => eTab (sysOf si) 0 = 2) A ∗ bigSep (Finset.univ.filter fun si : Fin 6 => eTab (sysOf si) 0 = 4) A) := by
  rw [show (Finset.univ.filter fun si : Fin 6 => eTab (sysOf si) 0 = 1) = {0, 3} from by decide,
    show (Finset.univ.filter fun si : Fin 6 => eTab (sysOf si) 0 = 2) = {1, 4} from by decide,
    show (Finset.univ.filter fun si : Fin 6 => eTab (sysOf si) 0 = 4) = {2, 5} from by decide, bigSep_six,
    bigSep_pair (by decide), bigSep_pair (by decide), bigSep_pair (by decide)]
  constructor
  · iintro ⟨H0, H1, H2, H3, H4, H5⟩
    isplitl [H0 H3]
    · isplitl [H0]; · iexact H0
      iexact H3
    isplitl [H1 H4]
    · isplitl [H1]; · iexact H1
      iexact H4
    isplitl [H2]; · iexact H2
    iexact H5
  · iintro ⟨⟨H0, H3⟩, ⟨H1, H4⟩, H2, H5⟩
    isplitl [H0]; · iexact H0
    isplitl [H1]; · iexact H1
    isplitl [H2]; · iexact H2
    isplitl [H3]; · iexact H3
    isplitl [H4]; · iexact H4
    iexact H5

/-- The slots a device hands over at the barrier are its own second ones; -/
theorem barPay_own (e : Fin 8) :
    bigSep (Finset.univ.filter fun si : Fin 6 => eTab (sysOf si) 0 = e) (fun si => slotAny (F := F) c si 1) = barPay (nb c e) e := by
  unfold barPay
  rw [nb_nb]
/-- those it gets are the second ones of the neighbours it sends to first. -/
theorem barPay_nbr (e : Fin 8) :
    barPay (F := F) c e = bigSep (Finset.univ.filter fun si : Fin 6 => eTab (sysOf si) 0 = e) (fun si => slotAny (nbr c si 0) si 1) := by
  unfold barPay
  exact bigSep_congr fun si hsi => by rw [← (Finset.mem_filter.mp hsi).2]

theorem barPay_all : (bigSep {1, 2, 4} fun e => barPay (F := F) c e) ⊢ bigSep Finset.univ fun si : Fin 6 => slotAny (nbr c si 0) si 1 := by
  refine BIBase.Entails.trans ?_ (by_mask (F := F) (fun si => slotAny (nbr c si 0) si 1)).2
  rw [← barPay_nbr, ← barPay_nbr, ← barPay_nbr, bigSep_masks]

/-- The barrier. -/
theorem op_bar (l : List Due) (ha : Above 1 l) (hb : Below l) :
    iprop(Ctx m K ∗ Ow c (barD 1 :: barD 2 :: barD 4 :: l) ∗ cred (tallyAt (cell c .bar) 1 3) ∗ atPos ER (cell c .bar) 0 ∅ 0
        ∗ (dutyTok ER (cell (nb c 1) .bar) 0 1 ∗ dutyTok ER (cell (nb c 2) .bar) 0 2 ∗ dutyTok ER (cell (nb c 4) .bar) 0 4)
        ∗ bigSep Finset.univ fun si : Fin 6 => slotAny c si 1)
      ⊢ iprop(((Ow c l ∗ atPos ER (cell c .bar) 1 ∅ 0 ∗ bigSep Finset.univ fun si : Fin 6 => slotAny (nbr c si 0) si 1) -∗ WPc c k Q)
        -∗ WPc c (barSig c 1 (barSig c 2 (barSig c 4 (barWait k)))) Q) := by
  iintro ⟨#HC, HO, Hc, Hat, ⟨Ht1, Ht2, Ht4⟩, Hs⟩ Hk
  ihave Hs := (by_mask (F := F) (fun si => slotAny c si 1)).1 $$ Hs
  rw [barPay_own, barPay_own, barPay_own]
  icases Hs with ⟨Hs1, Hs2, Hs4⟩
  iapply (op_barSig m K c Q _ 1 (by decide) _) $$ [HO Ht1 Hs1]
  · isplitr; · iexact HC
    isplitl [HO]; · iexact HO
    isplitl [Ht1]; · iexact Ht1
    iexact Hs1
  iintro HO
  iapply (op_barSig m K c Q _ 2 (by decide) _) $$ [HO Ht2 Hs2]
  · isplitr; · iexact HC
    isplitl [HO]; · iexact HO
    isplitl [Ht2]; · iexact Ht2
    iexact Hs2
  iintro HO
  iapply (op_barSig m K c Q _ 4 (by decide) _) $$ [HO Ht4 Hs4]
  · isplitr; · iexact HC
    isplitl [HO]; · iexact HO
    isplitl [Ht4]; · iexact Ht4
    iexact Hs4
  iintro HO
  iapply (op_barWait m K c Q k l ha hb) $$ [HO Hc Hat]
  · isplitr; · iexact HC
    isplitl [Hc]; · iexact Hc
    isplitl [HO]; · iexact HO
    iexact Hat
  iintro ⟨HO, Hat, Hp⟩
  iapply Hk
  isplitl [HO]; · iexact HO
  isplitl [Hat]; · iexact Hat
  iapply (barPay_all c)
  iexact Hp

/-! ## The right operand -/

/-- The columns of the right operand brought in by the first `n` systems. -/
def bcol (n : ℕ) : ℕ := [0, 1408, 2816, 4096].getD n 0
/-- The tokens of a system's three pieces. -/
def bToks (y : Fin 3) : sProp 𝕄 :=
  iprop(dutyTok ER (cell c .locB) (3 * y.val) 0 ∗ dutyTok ER (cell c .locB) (3 * y.val + 1) 0 ∗ dutyTok ER (cell c .locB) (3 * y.val + 2) 0)
/-- What is carried through the pieces: `n` systems done. -/
def bCarry (l : List Due) (n : ℕ) : sProp 𝕄 :=
  iprop(bHas m c (bcol n) ∗ gAny c ∗ argB m c ∗ Ow c l ∗ atPos ER (cell c .locB) (3 * n) ∅ 0 ∗ reached ER (cell c .locB) (3 * n))

theorem pcol_first (y : Fin 3) : pcol ⟨3 * y.val, by omega⟩ = bcol y.val := by revert y; decide
theorem pcol_mid (y : Fin 3) : pcol ⟨3 * y.val, by omega⟩ + pwid ⟨3 * y.val, by omega⟩ = pcol ⟨3 * y.val + 1, by omega⟩ := by revert y; decide
theorem pcol_last (y : Fin 3) : pcol ⟨3 * y.val + 1, by omega⟩ + pwid ⟨3 * y.val + 1, by omega⟩ = pcol ⟨3 * y.val + 2, by omega⟩ := by revert y; decide
theorem pcol_end (y : Fin 3) : pcol ⟨3 * y.val + 2, by omega⟩ + pwid ⟨3 * y.val + 2, by omega⟩ = bcol (y.val + 1) := by revert y; decide

theorem op_pieces (y : Fin 3) (l : List Due) (ha : Above 0 l) (hb : Below l) :
    iprop(Ctx m K ∗ bCarry m c l y.val ∗ bToks c y)
      ⊢ iprop((bCarry m c l (y.val + 1) -∗ WPc c k Q)
        -∗ WPc c (pieceB ⟨3 * y.val, by omega⟩ (pieceB ⟨3 * y.val + 1, by omega⟩ (pieceB ⟨3 * y.val + 2, by omega⟩ k))) Q) := by
  unfold bCarry bToks
  rw [← pcol_first]
  iintro ⟨#HC, ⟨Hb, Hg, Hs, HO, Hat, Hr⟩, Ht1, Ht2, Ht3⟩ Hk
  iapply (op_pieceB m K c Q _ ⟨3 * y.val, _⟩ l ha hb) $$ [Hb Hg Hs HO Hat Hr Ht1]
  · isplitr; · iexact HC
    isplitl [Hb]; · iexact Hb
    isplitl [Hg]; · iexact Hg
    isplitl [Hs]; · iexact Hs
    isplitl [HO]; · iexact HO
    isplitl [Hat]; · iexact Hat
    isplitl [Hr]; · iexact Hr
    iexact Ht1
  rw [pcol_mid]
  iintro ⟨Hb, Hg, Hs, HO, Hat, Hr⟩
  iapply (op_pieceB m K c Q _ ⟨3 * y.val + 1, _⟩ l ha hb) $$ [Hb Hg Hs HO Hat Hr Ht2]
  · isplitr; · iexact HC
    isplitl [Hb]; · iexact Hb
    isplitl [Hg]; · iexact Hg
    isplitl [Hs]; · iexact Hs
    isplitl [HO]; · iexact HO
    isplitl [Hat]; · iexact Hat
    isplitl [Hr]; · iexact Hr
    iexact Ht2
  rw [pcol_last]
  iintro ⟨Hb, Hg, Hs, HO, Hat, Hr⟩
  iapply (op_pieceB m K c Q _ ⟨3 * y.val + 2, _⟩ l ha hb) $$ [Hb Hg Hs HO Hat Hr Ht3]
  · isplitr; · iexact HC
    isplitl [Hb]; · iexact Hb
    isplitl [Hg]; · iexact Hg
    isplitl [Hs]; · iexact Hs
    isplitl [HO]; · iexact HO
    isplitl [Hat]; · iexact Hat
    isplitl [Hr]; · iexact Hr
    iexact Ht3
  rw [pcol_end]
  iintro ⟨Hb, Hg, Hs, HO, Hat, Hr⟩
  iapply Hk
  isplitl [Hb]; · iexact Hb
  isplitl [Hg]; · iexact Hg
  isplitl [Hs]; · iexact Hs
  isplitl [HO]; · iexact HO
  isplitl [Hat]; · iexact Hat
  iexact Hr

/-! ## The first products and sends -/

theorem op_first (si : Fin 6) (y : Fin 3) (hy : sysOf si = y) (n : ℕ) (hn : colOf si + wid si ≤ n) (l : List Due) :
    iprop(Ctx m K ∗ aHas m c y (mTab y 0) ∗ bHas m c n ∗ Ow c (sndD 0 si :: l) ∗ strB c si)
      ⊢ iprop(((aHas m c y (mTab y 0) ∗ bHas m c n ∗ Ow c l ∗ strS c si 0 6) -∗ WPc c k Q) -∗ WPc c (firstDot si (sendP c si 0 1 (eTab y 0) k)) Q) := by
  subst hy
  unfold strB strAt strS sndToks nbr
  iintro ⟨#HC, Ha, Hb, HO, Hs, Hd, Hs0, Hs1, Hr0, Hr1, Hy0, Hy1, ⟨Ht1, Ht2⟩, Hf⟩ Hk
  iapply (op_firstDot m c Q _ si n hn) $$ [Ha Hb Hs]
  · isplitl [Ha]; · iexact Ha
    isplitl [Hb]; · iexact Hb
    iexact Hs
  iintro ⟨Ha, Hb, Hs⟩
  iapply (op_sendP m K c Q k si 0 (by omega) 0 1 rfl rfl l) $$ [Hs Hd HO Ht1 Ht2]
  · isplitr; · iexact HC
    isplitl [Hs]; · iexact Hs
    isplitl [Hd]; · iexact Hd
    isplitl [HO]; · iexact HO
    isplitl [Ht1]; · iexact Ht1
    isplitr; · unfold sRch; iapply (ctx_zero m K c (.snd si (sl 0))); iexact HC
    isplitl [Ht2]; · iexact Ht2
    unfold rRch; iapply (ctx_zero m K (nb c (eTab (sysOf si) 0)) (.rcv si (sl 1))); iexact HC
  iintro ⟨Hc, HO⟩
  iapply Hk
  isplitl [Ha]; · iexact Ha
  isplitl [Hb]; · iexact Hb
  isplitl [HO]; · iexact HO
  isplitl [Hc]; · iexact Hc
  isplitl [Hs0]; · iexact Hs0
  isplitl [Hs1]; · iexact Hs1
  isplitl [Hr0]; · iexact Hr0
  isplitl [Hr1]; · iexact Hr1
  isplitl [Hy0]; · iexact Hy0
  isplitl [Hy1]; · iexact Hy1
  isplitr; · unfold sRch; iapply (ctx_zero m K c (.snd si (sl 1))); iexact HC
  isplitr; · unfold rRch; iapply (ctx_zero m K c (.rcv si (sl 2))); iexact HC
  iexact Hf

/-- The two streams of a system. -/
abbrev lo (y : Fin 3) : Fin 6 := y.castLE (by decide)
abbrev hi (y : Fin 3) : Fin 6 := ⟨y.val + 3, by omega⟩
theorem sys_lo (y : Fin 3) : sysOf (lo y) = y := by revert y; decide
theorem sys_hi (y : Fin 3) : sysOf (hi y) = y := by revert y; decide
theorem col_lo (y : Fin 3) : colOf (lo y) + wid (lo y) ≤ bcol (y.val + 1) := by revert y; decide
theorem col_hi (y : Fin 3) : colOf (hi y) + wid (hi y) ≤ bcol (y.val + 1) := by revert y; decide

/-- What is owed after the first sends of `n` systems. -/
def leftS (n : ℕ) : List Due := (six0.drop (2 * n)).map (sndD 0) ++ tailD 0 6
theorem leftS_step (y : Fin 3) : leftS y.val = sndD 0 (lo y) :: sndD 0 (hi y) :: leftS (y.val + 1) := by
  have h : six0.drop (2 * y.val) = lo y :: hi y :: six0.drop (2 * (y.val + 1)) := by revert y; decide
  unfold leftS
  rw [h]
  rfl
theorem leftS_above (n : ℕ) : Above 1 (leftS n) := (above_snd (by omega) _).append (above_tail _ _ (by omega))
theorem leftS_below (n : ℕ) : Below (leftS n) := below_append (below_snd (by omega) _) (below_tail _ _ (by omega))

theorem op_sys (y : Fin 3) :
    iprop((Ctx m K ∗ bCarry m c (leftS y.val) y.val) ∗ bToks c y ∗ aWait m c y 0 7 ∗ strB c (lo y) ∗ strB c (hi y))
      ⊢ iprop((((Ctx m K ∗ bCarry m c (leftS (y.val + 1)) (y.val + 1)) ∗ aIdle m c y 1 7 ∗ strS c (lo y) 0 6 ∗ strS c (hi y) 0 6) -∗ WPc c k Q)
        -∗ WPc c (sysP c y k) Q) := by
  unfold sysP
  iintro ⟨⟨#HC, Hb⟩, Ht, Ha, Hl, Hh⟩ Hk
  iapply (op_pieces m K c Q _ y (leftS y.val) ((leftS_above _).mono (by omega)) (leftS_below _)) $$ [Hb Ht]
  · isplitr; · iexact HC
    isplitl [Hb]; · iexact Hb
    iexact Ht
  unfold bCarry
  iintro ⟨Hb, Hg, HB, HO, Hat, Hr⟩
  iapply (op_arrived m K c Q _ y 0 7 (by omega) (aChunk c (mTab y 0)) (leftS y.val) ((leftS_above _).mono (by omega)) (leftS_below _)) $$ [HO Ha]
  · isplitl [HO]
    · isplitr; · iexact HC
      iexact HO
    iexact Ha
  rw [leftS_step]
  iintro ⟨⟨-, HO⟩, Ha, Hak⟩
  iapply (op_first m K c Q _ (lo y) y (sys_lo y) (bcol (y.val + 1)) (col_lo y) _) $$ [Ha Hb HO Hl]
  · isplitr; · iexact HC
    isplitl [Ha]; · iexact Ha
    isplitl [Hb]; · iexact Hb
    isplitl [HO]; · iexact HO
    iexact Hl
  iintro ⟨Ha, Hb, HO, Hl⟩
  iapply (op_first m K c Q _ (hi y) y (sys_hi y) (bcol (y.val + 1)) (col_hi y) _) $$ [Ha Hb HO Hh]
  · isplitr; · iexact HC
    isplitl [Ha]; · iexact Ha
    isplitl [Hb]; · iexact Hb
    isplitl [HO]; · iexact HO
    iexact Hh
  iintro ⟨Ha, Hb, HO, Hh⟩
  iapply Hk
  isplitl [Hb Hg HB HO Hat Hr]
  · isplitr; · iexact HC
    isplitl [Hb]; · iexact Hb
    isplitl [Hg]; · iexact Hg
    isplitl [HB]; · iexact HB
    isplitl [HO]; · iexact HO
    isplitl [Hat]; · iexact Hat
    iexact Hr
  isplitl [Ha Hak]
  · iapply (aKeep_idle m c y 0 7 (mTab y 0))
    isplitl [Ha]; · iexact Ha
    iexact Hak
  isplitl [Hl]; · iexact Hl
  iexact Hh

theorem two_three (A : Fin 6 → sProp 𝕄) : bigSep Finset.univ A ⊣⊢ bigSep Finset.univ fun y : Fin 3 => iprop(A (lo y) ∗ A (hi y)) := by
  rw [bigSep_six, bigSep_three]
  show iprop(A 0 ∗ A 1 ∗ A 2 ∗ A 3 ∗ A 4 ∗ A 5) ⊣⊢ iprop((A 0 ∗ A 3) ∗ (A 1 ∗ A 4) ∗ A 2 ∗ A 5)
  constructor
  · iintro ⟨H0, H1, H2, H3, H4, H5⟩
    isplitl [H0 H3]
    · isplitl [H0]; · iexact H0
      iexact H3
    isplitl [H1 H4]
    · isplitl [H1]; · iexact H1
      iexact H4
    isplitl [H2]; · iexact H2
    iexact H5
  · iintro ⟨⟨H0, H3⟩, ⟨H1, H4⟩, H2, H5⟩
    isplitl [H0]; · iexact H0
    isplitl [H1]; · iexact H1
    isplitl [H2]; · iexact H2
    isplitl [H3]; · iexact H3
    isplitl [H4]; · iexact H4
    iexact H5

/-! ## The whole body -/

/-- What a device holds when the body begins. -/
def Begin : sProp 𝕄 :=
  iprop(Ow c allD
    ∗ (cred (tallyAt (cell c .bar) 1 3) ∗ atPos ER (cell c .bar) 0 ∅ 0
        ∗ (dutyTok ER (cell (nb c 1) .bar) 0 1 ∗ dutyTok ER (cell (nb c 2) .bar) 0 2 ∗ dutyTok ER (cell (nb c 4) .bar) 0 4))
    ∗ (bHas m c 0 ∗ gAny c ∗ argB m c ∗ atPos ER (cell c .locB) 0 ∅ 0 ∗ bigSep Finset.univ fun y : Fin 3 => bToks c y)
    ∗ (∃ t n, pHas m c t n) ∗ oHas m c 0
    ∗ (bigSep Finset.univ fun y : Fin 3 => iprop(aAny c y ∗ argA m c y ∗ atPos ER (cell c (.locA y)) 0 ∅ 0 ∗ aToks c y 0 8))
    ∗ (bigSep Finset.univ fun si : Fin 6 => slotAny c si 0) ∗ (bigSep Finset.univ fun si : Fin 6 => slotAny c si 1)
    ∗ bigSep Finset.univ fun si : Fin 6 => strAt c si)
/-- What it holds when the body ends. -/
def Finish : sProp 𝕄 :=
  iprop(End m c ∗ atPos ER (cell c .bar) 1 ∅ 0 ∗ gAny c ∗ argB m c ∗ atPos ER (cell c .locB) 9 ∅ 0)

theorem yAll_first (c : Dev nD) (t : ℕ) (ht : t ≤ 1) : Ctx (F := F) m K ⊢ yAll c t := by
  unfold yAll
  rw [bigSep_six]
  have h : t / 2 = 0 := by omega
  have hz (si : Fin 6) : Ctx (F := F) m K ⊢ yRch c si t := by unfold yRch; rw [h]; exact ctx_zero m K c (.rdy si (sl t))
  iintro #HC
  isplitr; · iapply (hz 0); iexact HC
  isplitr; · iapply (hz 1); iexact HC
  isplitr; · iapply (hz 2); iexact HC
  isplitr; · iapply (hz 3); iexact HC
  isplitr; · iapply (hz 4); iexact HC
  iapply (hz 5); iexact HC
theorem nAll_first : Ctx (F := F) m K ⊢ nAll c 0 := by
  unfold nAll
  rw [bigSep_three]
  iintro #HC
  isplitr; · iapply (yAll_first m K _ 0 (by omega)); iexact HC
  isplitr; · iapply (yAll_first m K _ 0 (by omega)); iexact HC
  iapply (yAll_first m K _ 0 (by omega)); iexact HC

theorem idle_first : iprop(Ctx (F := F) m K ∗ bigSep Finset.univ fun y : Fin 3 => iprop(aAny c y ∗ argA m c y ∗ atPos ER (cell c (.locA y)) 0 ∅ 0 ∗ aToks c y 0 8))
    ⊢ bigSep Finset.univ fun y : Fin 3 => aIdle m c y 0 8 := by
  rw [bigSep_three, bigSep_three]
  have h (y : Fin 3) : iprop(Ctx (F := F) m K ∗ aAny c y ∗ argA m c y ∗ atPos ER (cell c (.locA y)) 0 ∅ 0 ∗ aToks c y 0 8) ⊢ aIdle m c y 0 8 := by
    unfold aIdle
    iintro ⟨#HC, H1, H2, H3, H4⟩
    isplitl [H1]; · iexact H1
    isplitl [H2]; · iexact H2
    isplitl [H3]; · iexact H3
    isplitr; · iapply (ctx_zero m K c (.locA y)); iexact HC
    iexact H4
  iintro ⟨#HC, H0, H1, H2⟩
  isplitl [H0]
  · iapply (h 0)
    isplitr; · iexact HC
    iexact H0
  isplitl [H1]
  · iapply (h 1)
    isplitr; · iexact HC
    iexact H1
  iapply (h 2)
  isplitr; · iexact HC
  iexact H2

/-- The streams and the systems put together, system by system. -/
theorem deal_sys :
    iprop((bigSep Finset.univ fun y : Fin 3 => bToks c y) ∗ (bigSep Finset.univ fun y : Fin 3 => aWait m c y 0 7)
      ∗ (bigSep Finset.univ fun si : Fin 6 => slotAny c si 0) ∗ (bigSep Finset.univ fun si : Fin 6 => slotAny (nbr c si 0) si 1)
      ∗ bigSep Finset.univ fun si : Fin 6 => strAt c si)
      ⊢ bigSep Finset.univ fun y : Fin 3 => iprop(bToks (F := F) c y ∗ aWait m c y 0 7 ∗ strB c (lo y) ∗ strB c (hi y)) := by
  rw [bigSep_sep', bigSep_sep']
  iintro ⟨Ht, Ha, H0, H1, Hs⟩
  isplitl [Ht]; · iexact Ht
  isplitl [Ha]; · iexact Ha
  iapply (two_three (F := F) (fun si => strB c si)).1
  unfold strB
  rw [bigSep_sep', bigSep_sep']
  isplitl [H0]; · iexact H0
  isplitl [H1]; · iexact H1
  iexact Hs

theorem back_sys :
    (bigSep Finset.univ fun y : Fin 3 => iprop(aIdle m c y 1 7 ∗ strS c (lo y) 0 6 ∗ strS c (hi y) 0 6))
      ⊢ iprop((bigSep Finset.univ fun y : Fin 3 => aIdle (F := F) m c y 1 7) ∗ bigSep Finset.univ fun si : Fin 6 => strS c si 0 6) := by
  rw [bigSep_sep']
  exact sep_mono_right (two_three (F := F) (fun si => strS c si 0 6)).2

/-- The steps, one after the other. -/
theorem op_steps :
    iprop(Ctx m K ∗ St m c 0 6 ∗ oHas m c 0)
      ⊢ iprop((End m c -∗ WPc c k Q) -∗ WPc c (stepP c 0 (stepP c 1 (stepP c 2 (stepP c 3 (stepP c 4 (stepP c 5 (lastP k))))))) Q) := by
  iintro ⟨#HC, HS, Ho⟩ Hk
  iapply (op_step m K c Q _ 0 5 (by omega)) $$ [HS]
  · isplitr; · iexact HC
    iexact HS
  iintro ⟨-, HS⟩
  iapply (op_step m K c Q _ 1 4 (by omega)) $$ [HS]
  · isplitr; · iexact HC
    iexact HS
  iintro ⟨-, HS⟩
  iapply (op_step m K c Q _ 2 3 (by omega)) $$ [HS]
  · isplitr; · iexact HC
    iexact HS
  iintro ⟨-, HS⟩
  iapply (op_step m K c Q _ 3 2 (by omega)) $$ [HS]
  · isplitr; · iexact HC
    iexact HS
  iintro ⟨-, HS⟩
  iapply (op_step m K c Q _ 4 1 (by omega)) $$ [HS]
  · isplitr; · iexact HC
    iexact HS
  iintro ⟨-, HS⟩
  iapply (op_step m K c Q _ 5 0 (by omega)) $$ [HS]
  · isplitr; · iexact HC
    iexact HS
  iintro ⟨-, HS⟩
  iapply (op_last m K c Q k) $$ [HS Ho]
  · isplitr; · iexact HC
    isplitl [HS]; · iexact HS
    iexact Ho
  iexact Hk

theorem op_body : iprop(Ctx m K ∗ Begin m c) ⊢ iprop((Finish m c -∗ WPc c (.ret ⟨⟩) Q) -∗ WPc c (bodyD c) Q) := by
  unfold bodyD Begin Finish
  iintro ⟨#HC, HO, ⟨Hbc, Hba, Hbt⟩, ⟨Hb, Hg, HB, HatB, HtB⟩, ⟨%t', %n', Hp⟩, Ho, Ha, Hs0, Hs1, Hst⟩ Hk
  iapply (op_bar m K c Q _ (leftS 0) (leftS_above 0) (leftS_below 0)) $$ [HO Hbc Hba Hbt Hs1]
  · isplitr; · iexact HC
    isplitl [HO]; · iexact HO
    isplitl [Hbc]; · iexact Hbc
    isplitl [Hba]; · iexact Hba
    isplitl [Hbt]; · iexact Hbt
    iexact Hs1
  iintro ⟨HO, Hba, Hs1⟩
  ihave Ha := (idle_first m K c) $$ [Ha]
  · isplitr; · iexact HC
    iexact Ha
  iapply (rule_each3 c Q _ (fun y => copyA c y (mTab y 0)) (fun _ => Ctx m K) (fun y => aIdle m c y 0 8) (fun y => aWait m c y 0 7)
    (fun y k => op_chunk m K c Q k y 0 7 (by omega))) $$ [Ha]
  · isplitr; · iexact HC
    iexact Ha
  iintro ⟨-, Ha⟩
  ihave Hall := (deal_sys m c) $$ [HtB Ha Hs0 Hs1 Hst]
  · isplitl [HtB]; · iexact HtB
    isplitl [Ha]; · iexact Ha
    isplitl [Hs0]; · iexact Hs0
    isplitl [Hs1]; · iexact Hs1
    iexact Hst
  iapply (rule_each3 c Q _ (fun y => sysP c y) (fun i => iprop(Ctx m K ∗ bCarry m c (leftS i) i))
    (fun y => iprop(bToks c y ∗ aWait m c y 0 7 ∗ strB c (lo y) ∗ strB c (hi y)))
    (fun y => iprop(aIdle m c y 1 7 ∗ strS c (lo y) 0 6 ∗ strS c (hi y) 0 6)) (fun y k => op_sys m K c Q k y)) $$ [Hb Hg HB HO HatB Hall]
  · isplitr [Hall]
    · isplitr; · iexact HC
      unfold bCarry
      isplitl [Hb]; · iexact Hb
      isplitl [Hg]; · iexact Hg
      isplitl [HB]; · iexact HB
      isplitl [HO]; · iexact HO
      isplitl [HatB]; · iexact HatB
      iapply (ctx_zero m K c .locB); iexact HC
    iexact Hall
  unfold bCarry
  iintro ⟨⟨-, Hb, Hg, HB, HO, HatB, -⟩, Hall⟩
  ihave Hall := (back_sys m c) $$ Hall
  icases Hall with ⟨Ha, Hst⟩
  iapply (rule_each3 c Q _ (fun y => copyA c y (mTab y 1)) (fun _ => Ctx m K) (fun y => aIdle m c y 1 7) (fun y => aWait m c y 1 6)
    (fun y k => op_chunk m K c Q k y 1 6 (by omega))) $$ [Ha]
  · isplitr; · iexact HC
    iexact Ha
  iintro ⟨-, Ha⟩
  iapply (op_steps m K c Q (.ret ⟨⟩)) $$ [HO Hb Hp Ho Ha Hst]
  · isplitr; · iexact HC
    isplitr [Ho]
    · unfold St
      isplitl [HO]; · iexact HO
      isplitl [Hb]; · iexact Hb
      isplitl [Hp]; · iexists t', n'; iexact Hp
      isplitl [Ha]; · iexact Ha
      isplitl [Hst]; · iexact Hst
      isplitr; · iapply (yAll_first m K c 1 (by omega)); iexact HC
      iapply (nAll_first m K c); iexact HC
    iexact Ho
  iintro He
  iapply Hk
  isplitl [He]; · iexact He
  isplitl [Hba]; · iexact Hba
  isplitl [Hg]; · iexact Hg
  isplitl [HB]; · iexact HB
  iexact HatB

end Cert.RS
-- ==== Proof.Deal.lean ====
/-
# What the launch deals out

Every semaphore's tokens go to the device that pays with them; what a device is owed comes to it as credit.
-/
module

public import proofs.«01_k».proof.Proof.Start

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F]

local notation "𝕄" => MT nD τ sig ℕ (Elt F) ℕ UU ℕ

variable (m : (ℓ : Loc nD τ sig) → Buf (Elt F) ℓ) (K : Dev nD × CK → ℕ)
variable (c : Dev nD) (Q : PUnit.{1} → sProp (MT nD τ sig ℕ (Elt F) ℕ UU ℕ)) (k : Pg F)

/-! ## Rows of resources -/

/-- `A t, A (t + 1), …`, `n` of them. -/
def seqN (A : ℕ → sProp 𝕄) (t : ℕ) : ℕ → sProp 𝕄
  | 0 => iprop(emp)
  | n + 1 => iprop(A t ∗ seqN A (t + 1) n)
theorem seqN_succ (A : ℕ → sProp 𝕄) (t n : ℕ) : seqN A t (n + 1) = iprop(A t ∗ seqN A (t + 1) n) := rfl

theorem bigSep_first {n : ℕ} (A : Fin (n + 1) → sProp 𝕄) : bigSep Finset.univ A = iprop(A 0 ∗ bigSep Finset.univ fun i : Fin n => A i.succ) := by
  rw [Fin.univ_succ, Finset.cons_eq_insert, BI.bigSep_insert (by simp [Fin.succ_ne_zero]), bigSep_map]
  rfl
theorem bigSep_none (A : Fin 0 → sProp 𝕄) : bigSep Finset.univ A = iprop(emp) := by
  rw [show (Finset.univ : Finset (Fin 0)) = ∅ from rfl, BI.bigSep_empty]
  rfl

theorem seqN_eq (A : ℕ → sProp 𝕄) (n : ℕ) : ∀ t, (bigSep Finset.univ fun i : Fin n => A (t + i.val)) = seqN A t n := by
  induction n with
  | zero => exact fun t => bigSep_none _
  | succ n ih =>
    intro t
    rw [bigSep_first, seqN_succ, ← ih (t + 1)]
    refine congrArg (fun P : sProp 𝕄 => iprop(A t ∗ P)) (bigSep_congr fun i _ => ?_)
    rw [show t + i.succ.val = t + 1 + i.val from by rw [Fin.val_succ]; omega]
theorem seqN_zero (A : ℕ → sProp 𝕄) (n : ℕ) : (bigSep Finset.univ fun i : Fin n => A i.val) = seqN A 0 n := by
  rw [← seqN_eq]
  exact bigSep_congr fun i _ => by rw [Nat.zero_add]

theorem aToks_eq (y : Fin 3) (n : ℕ) : ∀ u, seqN (fun u => dutyTok ER (cell c (.locA y)) u 0) u n = aToks (F := F) c y u n := by
  induction n with
  | zero => exact fun _ => rfl
  | succ n ih => exact fun u => by rw [seqN_succ, aToks_succ, ih]

/-- What a stream is paid after the first send, and what it pays with. -/
def creds (si : Fin 6) : ℕ → sProp 𝕄 := fun t => iprop(yCred c si t ∗ rCred c si (t + 1))
def pays (si : Fin 6) : ℕ → sProp 𝕄 := fun t => iprop(rdyTok c si t ∗ sndToks c si (t + 1))

theorem fuel_intro (si : Fin 6) (n : ℕ) : ∀ t, iprop(rCred c si t ∗ seqN (creds c si) t n ∗ seqN (pays c si) t n) ⊢ fuel (F := F) c si t n := by
  induction n with
  | zero =>
    intro t
    iintro ⟨H, -, -⟩
    unfold fuel
    iexact H
  | succ n ih =>
    intro t
    rw [fuel_succ, seqN_succ, seqN_succ]
    unfold creds pays
    iintro ⟨H, ⟨⟨Hy, Hr⟩, Hc⟩, ⟨Ht, Hs⟩, Hp⟩
    isplitl [H]; · iexact H
    isplitl [Hy]; · iexact Hy
    isplitl [Ht]; · iexact Ht
    isplitl [Hs]; · iexact Hs
    iapply (ih (t + 1))
    isplitl [Hr]; · iexact Hr
    unfold creds pays
    isplitl [Hc]; · iexact Hc
    iexact Hp

/-! ## Sums over the semaphores of a device -/

abbrev KI : Type := (Unit ⊕ Unit) ⊕ (Fin 3 ⊕ ((Fin 6 × Fin 2) ⊕ ((Fin 6 × Fin 2) ⊕ (Fin 6 × Fin 2))))

def kiTo : KI → CK
  | .inl (.inl _) => .bar
  | .inl (.inr _) => .locB
  | .inr (.inl y) => .locA y
  | .inr (.inr (.inl p)) => .snd p.1 p.2
  | .inr (.inr (.inr (.inl p))) => .rcv p.1 p.2
  | .inr (.inr (.inr (.inr p))) => .rdy p.1 p.2
def kiOf : CK → KI
  | .bar => .inl (.inl ())
  | .locB => .inl (.inr ())
  | .locA y => .inr (.inl y)
  | .snd si k => .inr (.inr (.inl (si, k)))
  | .rcv si k => .inr (.inr (.inr (.inl (si, k))))
  | .rdy si k => .inr (.inr (.inr (.inr (si, k))))
def kiE : KI ≃ CK where
  toFun := kiTo
  invFun := kiOf
  left_inv := by rintro ((_ | _) | _ | _ | _ | _) <;> rfl
  right_inv := by rintro (_ | _ | _ | _ | _ | _) <;> rfl

theorem bigSep_one (A : Unit → sProp 𝕄) : bigSep Finset.univ A = A () := by
  rw [show (Finset.univ : Finset Unit) = {()} from rfl, bigSep_singleton]
theorem bigSep_two (A : Fin 2 → sProp 𝕄) : bigSep Finset.univ A = iprop(A 0 ∗ A 1) := by
  rw [bigSep_univ_eq_bigSepL [0, 1] (by decide) (by decide)]
  simp only [bigSepL_cons_cons, bigSepL_singleton]
  rfl

theorem by_kind (A : CK → sProp 𝕄) : bigSep Finset.univ A
    = iprop((A .bar ∗ A .locB) ∗ (bigSep Finset.univ fun y : Fin 3 => A (.locA y))
      ∗ (bigSep Finset.univ fun si : Fin 6 => iprop(A (.snd si 0) ∗ A (.snd si 1)))
      ∗ (bigSep Finset.univ fun si : Fin 6 => iprop(A (.rcv si 0) ∗ A (.rcv si 1)))
      ∗ (bigSep Finset.univ fun si : Fin 6 => iprop(A (.rdy si 0) ∗ A (.rdy si 1)))) := by
  rw [BI.bigSep_univ_equiv kiE A, BI.bigSep_univ_sum, BI.bigSep_univ_sum, BI.bigSep_univ_sum, BI.bigSep_univ_sum, BI.bigSep_univ_sum,
    bigSep_one, bigSep_one, BI.bigSep_univ_prod, BI.bigSep_univ_prod, BI.bigSep_univ_prod,
    bigSep_congr (fun (si : Fin 6) _ => bigSep_two fun k : Fin 2 => A (kiE (.inr (.inr (.inl (si, k)))))),
    bigSep_congr (fun (si : Fin 6) _ => bigSep_two fun k : Fin 2 => A (kiE (.inr (.inr (.inr (.inl (si, k))))))),
    bigSep_congr (fun (si : Fin 6) _ => bigSep_two fun k : Fin 2 => A (kiE (.inr (.inr (.inr (.inr (si, k)))))))]
  rfl

/-- Where a stream's semaphores stand at first. -/
def posAt (si : Fin 6) : sProp 𝕄 := iprop(sAt c si 0 ∗ sAt c si 1 ∗ rAt c si 0 ∗ rAt c si 1 ∗ yAt c si 0 ∗ yAt c si 1)

theorem pos_intro : (bigSep Finset.univ fun k : CK => (atPos ER (cell c k) 0 ∅ 0 : sProp 𝕄))
    ⊢ iprop(atPos ER (cell c .bar) 0 ∅ 0 ∗ atPos ER (cell c .locB) 0 ∅ 0 ∗ (bigSep Finset.univ fun y : Fin 3 => atPos ER (cell c (.locA y)) 0 ∅ 0)
      ∗ bigSep Finset.univ fun si : Fin 6 => posAt c si) := by
  have h : iprop((bigSep Finset.univ fun si : Fin 6 => iprop(atPos ER (cell c (.snd si 0)) 0 ∅ 0 ∗ atPos ER (cell c (.snd si 1)) 0 ∅ 0))
      ∗ (bigSep Finset.univ fun si : Fin 6 => iprop(atPos ER (cell c (.rcv si 0)) 0 ∅ 0 ∗ atPos ER (cell c (.rcv si 1)) 0 ∅ 0))
      ∗ (bigSep Finset.univ fun si : Fin 6 => iprop(atPos ER (cell c (.rdy si 0)) 0 ∅ 0 ∗ atPos ER (cell c (.rdy si 1)) 0 ∅ 0)))
      ⊢ (bigSep Finset.univ fun si : Fin 6 => posAt c si : sProp 𝕄) := by
    rw [← bigSep_sep', ← bigSep_sep']
    refine bigSep_mono fun si _ => ?_
    show _ ⊢ iprop(atPos ER (cell c (.snd si 0)) 0 ∅ 0 ∗ atPos ER (cell c (.snd si 1)) 0 ∅ 0 ∗ atPos ER (cell c (.rcv si 1)) 0 ∅ 0
      ∗ atPos ER (cell c (.rcv si 0)) 0 ∅ 0 ∗ atPos ER (cell c (.rdy si 0)) 0 ∅ 0 ∗ atPos ER (cell c (.rdy si 1)) 0 ∅ 0)
    iintro ⟨⟨H1, H2⟩, ⟨H3, H4⟩, H5, H6⟩
    isplitl [H1]; · iexact H1
    isplitl [H2]; · iexact H2
    isplitl [H4]; · iexact H4
    isplitl [H3]; · iexact H3
    isplitl [H5]; · iexact H5
    iexact H6
  rw [by_kind]
  iintro ⟨⟨H1, H2⟩, H3, H4⟩
  isplitl [H1]; · iexact H1
  isplitl [H2]; · iexact H2
  isplitl [H3]; · iexact H3
  iapply h
  iexact H4

/-! ## The tokens -/

abbrev TI : Type := Fin 3 ⊕ ((Fin 3 × Fin 8) ⊕ ((Fin 3 × Fin 3) ⊕ ((Fin 6 × Fin 7) ⊕ ((Fin 6 × Fin 7) ⊕ (Fin 6 × Fin 6)))))

instance : DecidableEq ((Fin 6 × Fin 7) ⊕ ((Fin 6 × Fin 7) ⊕ (Fin 6 × Fin 6))) := inferInstance
instance : DecidableEq TI := inferInstance

/-- The token's semaphore, round and duty. -/
def tokOf : TI → CK × ℕ × Fin 8
  | .inl y => (.bar, 0, eTab y 0)
  | .inr (.inl p) => (.locA p.1, p.2.val, 0)
  | .inr (.inr (.inl p)) => (.locB, 3 * p.1.val + p.2.val, 0)
  | .inr (.inr (.inr (.inl p))) => (.snd p.1 (sl p.2.val), p.2.val / 2, 0)
  | .inr (.inr (.inr (.inr (.inl p)))) => (.rcv p.1 (sl (p.2.val + 1)), p.2.val / 2, 0)
  | .inr (.inr (.inr (.inr (.inr p)))) => (.rdy p.1 (sl p.2.val), p.2.val / 2, 0)
/-- The device whose semaphore device `c` pays with it. -/
def tgt : TI → Dev nD → Dev nD
  | .inl y, c => nb c (eTab y 0)
  | .inr (.inl _), c => c
  | .inr (.inr (.inl _)), c => c
  | .inr (.inr (.inr (.inl _))), c => c
  | .inr (.inr (.inr (.inr (.inl p)))), c => nb c (eTab (sysOf p.1) p.2.val)
  | .inr (.inr (.inr (.inr (.inr p)))), c => nb c (eTab (sysOf p.1) (p.2.val + 1))

theorem tgt_tgt (i : TI) (c : Dev nD) : tgt i (tgt i c) = c := by
  rcases i with y | p | p | p | p | p
  · exact nb_nb c _
  · rfl
  · rfl
  · rfl
  · exact nb_nb c _
  · exact nb_nb c _

/-- The token back from its semaphore, round and duty. -/
def tokInv : CK × ℕ × Fin 8 → Option TI
  | (.bar, _, d) => if d = 1 then some (.inl 0) else if d = 2 then some (.inl 1) else some (.inl 2)
  | (.locA y, r, _) => if h : r < 8 then some (.inr (.inl (y, ⟨r, h⟩))) else none
  | (.locB, r, _) => if h : r < 9 then some (.inr (.inr (.inl (⟨r / 3, by omega⟩, ⟨r % 3, by omega⟩)))) else none
  | (.snd si k, r, _) => if h : 2 * r + k.val < 7 then some (.inr (.inr (.inr (.inl (si, ⟨2 * r + k.val, h⟩))))) else none
  | (.rcv si k, r, _) => if h : 2 * r + 1 - k.val < 7 then some (.inr (.inr (.inr (.inr (.inl (si, ⟨2 * r + 1 - k.val, h⟩)))))) else none
  | (.rdy si k, r, _) => if h : 2 * r + k.val < 6 then some (.inr (.inr (.inr (.inr (.inr (si, ⟨2 * r + k.val, h⟩)))))) else none

theorem tokInv_tokOf (i : TI) : tokInv (tokOf i) = some i := by
  rcases i with y | ⟨y, r⟩ | ⟨y, r⟩ | ⟨si, u⟩ | ⟨si, u⟩ | ⟨si, u⟩
  · revert y; decide +kernel
  · revert y r; decide +kernel
  · revert y r; decide +kernel
  · revert si u; decide +kernel
  · revert si u; decide +kernel
  · revert si u; decide +kernel
theorem tokOf_injective : Function.Injective tokOf := fun a b h => by
  have h' := congrArg tokInv h
  rw [tokInv_tokOf, tokInv_tokOf] at h'
  exact Option.some.inj h'

theorem cell_injective : Function.Injective fun p : Dev nD × CK => cell p.1 p.2 := fun p q h => by
  have h1 : p.1 = q.1 := congrArg (fun g : GSem nD τ sig => g.1.1) h
  exact Prod.ext h1 (csem_injective (congrArg Prod.snd h))
def allCells : Finset (GSem nD τ sig) := Finset.univ.map ⟨fun p : Dev nD × CK => cell p.1 p.2, cell_injective⟩

def tokAt (p : Dev nD × TI) : GSem nD τ sig × ℕ × Fin 8 := (cell p.1 (tokOf p.2).1, (tokOf p.2).2.1, (tokOf p.2).2.2)
theorem tokAt_injective : Function.Injective tokAt := fun p q h => by
  have h0 : ((p.1, (tokOf p.2).1) : Dev nD × CK) = (q.1, (tokOf q.2).1) := cell_injective (congrArg (fun x : GSem nD τ sig × ℕ × Fin 8 => x.1) h)
  have h1 : p.1 = q.1 := (Prod.mk.inj h0).1
  have h2 : (tokOf p.2).1 = (tokOf q.2).1 := (Prod.mk.inj h0).2
  have h3 : (tokOf p.2).2 = (tokOf q.2).2 := congrArg (fun x : GSem nD τ sig × ℕ × Fin 8 => x.2) h
  exact Prod.ext h1 (tokOf_injective (Prod.ext h2 h3))
def allToks : Finset (GSem nD τ sig × ℕ × Fin 8) := Finset.univ.map ⟨tokAt, tokAt_injective⟩

/-- The tokens of a device's own semaphores; the tokens it pays with. -/
def ownToks : sProp 𝕄 := bigSep Finset.univ fun i : TI => dutyTok ER (cell c (tokOf i).1) (tokOf i).2.1 (tokOf i).2.2
def payToks : sProp 𝕄 := bigSep Finset.univ fun i : TI => dutyTok ER (cell (tgt i c) (tokOf i).1) (tokOf i).2.1 (tokOf i).2.2

theorem toks_around : (bigSep Finset.univ fun c : Dev nD => ownToks (F := F) c) = bigSep Finset.univ fun c : Dev nD => payToks c := by
  unfold ownToks payToks
  rw [Pipeline.bigSep_univ_comm, Pipeline.bigSep_univ_comm (fun (c : Dev nD) (i : TI) => (dutyTok ER (cell (tgt i c) (tokOf i).1) (tokOf i).2.1 (tokOf i).2.2 : sProp 𝕄))]
  exact bigSep_congr fun i _ => BI.bigSep_univ_equiv ⟨tgt i, tgt i, tgt_tgt i, tgt_tgt i⟩ (fun c : Dev nD => (dutyTok ER (cell c (tokOf i).1) (tokOf i).2.1 (tokOf i).2.2 : sProp 𝕄))

/-- The tokens of one stream in program order. -/
theorem stream_toks (si : Fin 6) :
    iprop((bigSep Finset.univ fun u : Fin 7 => dutyTok ER (cell c (.snd si (sl u.val))) (u.val / 2) 0)
      ∗ (bigSep Finset.univ fun u : Fin 7 => dutyTok ER (cell (nbr c si u.val) (.rcv si (sl (u.val + 1)))) (u.val / 2) 0)
      ∗ (bigSep Finset.univ fun u : Fin 6 => rdyTok c si u.val))
      ⊢ iprop(sndToks (F := F) c si 0 ∗ seqN (pays c si) 0 6) := by
  have h : iprop((bigSep Finset.univ fun u : Fin 7 => dutyTok ER (cell c (.snd si (sl u.val))) (u.val / 2) 0)
      ∗ (bigSep Finset.univ fun u : Fin 7 => dutyTok ER (cell (nbr c si u.val) (.rcv si (sl (u.val + 1)))) (u.val / 2) 0))
      = iprop(sndToks (F := F) c si 0 ∗ bigSep Finset.univ fun u : Fin 6 => sndToks c si (u.val + 1)) := by
    rw [← bigSep_sep', bigSep_first]
    rfl
  have h' : iprop((bigSep Finset.univ fun u : Fin 6 => rdyTok c si u.val) ∗ (bigSep Finset.univ fun u : Fin 6 => sndToks c si (u.val + 1)))
      = seqN (F := F) (pays c si) 0 6 := by
    rw [← seqN_zero, ← bigSep_sep']
    rfl
  rw [← h']
  iintro ⟨H1, H2, H3⟩
  ihave H := (Entails.of_eq h) $$ [H1 H2]
  · isplitl [H1]; · iexact H1
    iexact H2
  icases H with ⟨H1, H2⟩
  isplitl [H1]; · iexact H1
  isplitl [H3]; · iexact H3
  iexact H2

theorem pay_split : payToks (F := F) c
    = iprop((bigSep Finset.univ fun y : Fin 3 => dutyTok ER (cell (nb c (eTab y 0)) .bar) 0 (eTab y 0))
      ∗ (bigSep Finset.univ fun y : Fin 3 => bigSep Finset.univ fun r : Fin 8 => dutyTok ER (cell c (.locA y)) r.val 0)
      ∗ (bigSep Finset.univ fun y : Fin 3 => bigSep Finset.univ fun r : Fin 3 => dutyTok ER (cell c .locB) (3 * y.val + r.val) 0)
      ∗ (bigSep Finset.univ fun si : Fin 6 => bigSep Finset.univ fun u : Fin 7 => dutyTok ER (cell c (.snd si (sl u.val))) (u.val / 2) 0)
      ∗ (bigSep Finset.univ fun si : Fin 6 => bigSep Finset.univ fun u : Fin 7 => dutyTok ER (cell (nbr c si u.val) (.rcv si (sl (u.val + 1)))) (u.val / 2) 0)
      ∗ (bigSep Finset.univ fun si : Fin 6 => bigSep Finset.univ fun u : Fin 6 => rdyTok c si u.val)) := by
  unfold payToks
  rw [BI.bigSep_univ_sum, BI.bigSep_univ_sum, BI.bigSep_univ_sum, BI.bigSep_univ_sum, BI.bigSep_univ_sum,
    BI.bigSep_univ_prod, BI.bigSep_univ_prod, BI.bigSep_univ_prod, BI.bigSep_univ_prod, BI.bigSep_univ_prod]
  rfl

theorem pay_deal : payToks (F := F) c
    ⊢ iprop((dutyTok ER (cell (nb c 1) .bar) 0 1 ∗ dutyTok ER (cell (nb c 2) .bar) 0 2 ∗ dutyTok ER (cell (nb c 4) .bar) 0 4)
      ∗ (bigSep Finset.univ fun y : Fin 3 => aToks c y 0 8) ∗ (bigSep Finset.univ fun y : Fin 3 => bToks c y)
      ∗ bigSep Finset.univ fun si : Fin 6 => iprop(sndToks c si 0 ∗ seqN (pays c si) 0 6)) := by
  have h1 : (bigSep Finset.univ fun y : Fin 3 => dutyTok ER (cell (nb c (eTab y 0)) .bar) 0 (eTab y 0))
      ⊢ (iprop(dutyTok ER (cell (nb c 1) .bar) 0 1 ∗ dutyTok ER (cell (nb c 2) .bar) 0 2 ∗ dutyTok ER (cell (nb c 4) .bar) 0 4) : sProp 𝕄) := by
    rw [bigSep_three]; exact Entails.of_eq rfl
  have h2 : (bigSep Finset.univ fun y : Fin 3 => bigSep Finset.univ fun r : Fin 8 => dutyTok ER (cell c (.locA y)) r.val 0)
      ⊢ (bigSep Finset.univ fun y : Fin 3 => aToks c y 0 8 : sProp 𝕄) :=
    bigSep_mono fun y _ => Entails.of_eq ((seqN_zero (fun u => dutyTok ER (cell c (.locA y)) u 0) 8).trans (aToks_eq c y 8 0))
  have h3 : (bigSep Finset.univ fun y : Fin 3 => bigSep Finset.univ fun r : Fin 3 => dutyTok ER (cell c .locB) (3 * y.val + r.val) 0)
      ⊢ (bigSep Finset.univ fun y : Fin 3 => bToks c y : sProp 𝕄) :=
    bigSep_mono fun y _ => Entails.of_eq (bigSep_three (F := F) fun r : Fin 3 => dutyTok ER (cell c .locB) (3 * y.val + r.val) 0)
  have h4 : iprop((bigSep Finset.univ fun si : Fin 6 => bigSep Finset.univ fun u : Fin 7 => dutyTok ER (cell c (.snd si (sl u.val))) (u.val / 2) 0)
      ∗ (bigSep Finset.univ fun si : Fin 6 => bigSep Finset.univ fun u : Fin 7 => dutyTok ER (cell (nbr c si u.val) (.rcv si (sl (u.val + 1)))) (u.val / 2) 0)
      ∗ (bigSep Finset.univ fun si : Fin 6 => bigSep Finset.univ fun u : Fin 6 => rdyTok c si u.val))
      ⊢ (bigSep Finset.univ fun si : Fin 6 => iprop(sndToks c si 0 ∗ seqN (pays c si) 0 6) : sProp 𝕄) := by
    rw [← bigSep_sep', ← bigSep_sep']
    exact bigSep_mono fun si _ => stream_toks c si
  rw [pay_split]
  iintro ⟨H1, H2, H3, H4⟩
  isplitl [H1]; · iapply h1; iexact H1
  isplitl [H2]; · iapply h2; iexact H2
  isplitl [H3]; · iapply h3; iexact H3
  iapply h4
  iexact H4

/-! ## The credit of what the others owe -/

/-- The credit of a list of payments, at the device they are made to. -/
def credL : List Due → sProp 𝕄
  | [] => iprop(emp)
  | x :: l => iprop(cred (tallyAt (cell c x.2.1) x.2.2.1 x.2.2.2) ∗ credL l)
theorem credL_cons (x : Due) (l : List Due) : credL (F := F) c (x :: l) = iprop(cred (tallyAt (cell c x.2.1) x.2.2.1 x.2.2.2) ∗ credL c l) := rfl

theorem launch_credL (l : List Due) : (Pipeline.launchCred (fun d => owed d l) c : sProp 𝕄) ⊢ credL c l := by
  induction l with
  | nil =>
    refine Entails.of_eq ?_
    show Pipeline.launchCred (fun d => (0 : CellTallies nD τ sig ℕ)) c = _
    rw [Pipeline.launchCred_zero]
    rfl
  | cons x l ih =>
    have h := Pipeline.launchCred_add (Val := Elt F) (Name := ℕ) (U := UU) (Lvl := ℕ) (fun d => owed d l) (fun d => tallyAt (cell (nb d x.1) x.2.1) x.2.2.1 x.2.2.2) c
    rw [show (fun d => owed d (x :: l)) = fun d => owed d l + tallyAt (cell (nb d x.1) x.2.1) x.2.2.1 x.2.2.2 from funext fun d => owed_cons d x l, h, credL_cons]
    have hx := Pipeline.launchCred_tallyAt (Val := Elt F) (Name := ℕ) (U := UU) (Lvl := ℕ) (τ := τ) (csem x.2.1) (fun d => nb d x.1) (fun d => nb d x.1)
      (fun c => nb_nb c x.1) (fun c => nb_nb c x.1) x.2.2.1 x.2.2.2 c
    iintro ⟨H1, H2⟩
    isplitl [H2]; · iapply hx; iexact H2
    iapply ih
    iexact H1

theorem credL_append (l l' : List Due) : credL (F := F) c (l ++ l') ⊢ iprop(credL c l ∗ credL c l') := by
  induction l with
  | nil =>
    unfold credL
    iintro H
    isplitr; · iempintro
    iexact H
  | cons x l ih =>
    rw [List.cons_append, credL_cons, credL_cons]
    iintro ⟨H1, H2⟩
    ihave H := ih $$ H2
    icases H with ⟨H2, H3⟩
    isplitl [H1 H2]
    · isplitl [H1]; · iexact H1
      iexact H2
    iexact H3

theorem credL_six (g : Fin 6 → Due) (l : List (Fin 6)) (hl : l = six ∨ l = six0) : credL (F := F) c (l.map g)
    ⊢ bigSep Finset.univ fun si : Fin 6 => cred (tallyAt (cell c (g si).2.1) (g si).2.2.1 (g si).2.2.2) := by
  rw [bigSep_six]
  rcases hl with rfl | rfl
  · simp only [six, List.map_cons, List.map_nil, credL]
    iintro ⟨H0, H1, H2, H3, H4, H5, -⟩
    isplitl [H0]; · iexact H0
    isplitl [H1]; · iexact H1
    isplitl [H2]; · iexact H2
    isplitl [H3]; · iexact H3
    isplitl [H4]; · iexact H4
    iexact H5
  · simp only [six0, List.map_cons, List.map_nil, credL]
    iintro ⟨H0, H3, H1, H4, H2, H5, -⟩
    isplitl [H0]; · iexact H0
    isplitl [H1]; · iexact H1
    isplitl [H2]; · iexact H2
    isplitl [H3]; · iexact H3
    isplitl [H4]; · iexact H4
    iexact H5

theorem credL_tail (n : ℕ) : ∀ t, credL (F := F) c (tailD t n) ⊢ bigSep Finset.univ fun si : Fin 6 => seqN (creds c si) t n := by
  induction n with
  | zero =>
    intro t
    rw [bigSep_six]
    unfold tailD credL seqN
    iintro -
    isplitr; · iempintro
    isplitr; · iempintro
    isplitr; · iempintro
    isplitr; · iempintro
    isplitr; · iempintro
    iempintro
  | succ n ih =>
    intro t
    have hy : credL (F := F) c (six.map (rdyD t)) ⊢ bigSep Finset.univ fun si : Fin 6 => yCred c si t := credL_six c (rdyD t) six (Or.inl rfl)
    have hr : credL (F := F) c (six.map (sndD (t + 1))) ⊢ bigSep Finset.univ fun si : Fin 6 => rCred c si (t + 1) := credL_six c (sndD (t + 1)) six (Or.inl rfl)
    have hj : iprop((bigSep Finset.univ fun si : Fin 6 => yCred c si t) ∗ (bigSep Finset.univ fun si : Fin 6 => rCred c si (t + 1))
        ∗ (bigSep Finset.univ fun si : Fin 6 => seqN (creds c si) (t + 1) n)) ⊢ (bigSep Finset.univ fun si : Fin 6 => seqN (creds c si) t (n + 1) : sProp 𝕄) := by
      rw [← bigSep_sep', ← bigSep_sep']
      refine bigSep_mono fun si _ => ?_
      show iprop(yCred c si t ∗ rCred c si (t + 1) ∗ seqN (creds c si) (t + 1) n) ⊢ iprop((yCred c si t ∗ rCred c si (t + 1)) ∗ seqN (creds c si) (t + 1) n)
      iintro ⟨H1, H2, H3⟩
      isplitl [H1 H2]
      · isplitl [H1]; · iexact H1
        iexact H2
      iexact H3
    show credL c (six.map (rdyD t) ++ (six.map (sndD (t + 1)) ++ tailD (t + 1) n)) ⊢ _
    iintro H
    ihave H := (credL_append c _ _) $$ H
    icases H with ⟨H1, H⟩
    ihave H := (credL_append c _ _) $$ H
    icases H with ⟨H2, H3⟩
    iapply hj
    isplitl [H1]; · iapply hy; iexact H1
    isplitl [H2]; · iapply hr; iexact H2
    iapply (ih (t + 1))
    iexact H3

theorem cred_deal : (Pipeline.launchCred (fun d => owed d allD) c : sProp 𝕄)
    ⊢ iprop(cred (tallyAt (cell c .bar) 1 3) ∗ bigSep Finset.univ fun si : Fin 6 => iprop(rCred c si 0 ∗ seqN (creds c si) 0 6)) := by
  have hb : credL (F := F) c [barD 1, barD 2, barD 4] ⊢ cred (tallyAt (cell c .bar) 1 3) := by
    rw [show (tallyAt (cell c .bar) 1 3 : CellTallies nD τ sig ℕ) = tallyAt (cell c .bar) 1 1 + (tallyAt (cell c .bar) 1 1 + tallyAt (cell c .bar) 1 1) from by
      rw [tallyAt_add, tallyAt_add]]
    unfold credL credL credL credL barD
    iintro ⟨H1, H2, H3, -⟩
    iapply (cred_add _ _).2
    isplitl [H1]; · iexact H1
    iapply (cred_add _ _).2
    isplitl [H2]; · iexact H2
    iexact H3
  have hr : credL (F := F) c (six0.map (sndD 0)) ⊢ bigSep Finset.univ fun si : Fin 6 => rCred c si 0 := credL_six c (sndD 0) six0 (Or.inr rfl)
  have hj : iprop((bigSep Finset.univ fun si : Fin 6 => rCred c si 0) ∗ (bigSep Finset.univ fun si : Fin 6 => seqN (creds c si) 0 6))
      ⊢ (bigSep Finset.univ fun si : Fin 6 => iprop(rCred c si 0 ∗ seqN (creds c si) 0 6) : sProp 𝕄) := by
    rw [← bigSep_sep']
  refine (launch_credL c allD).trans ?_
  show credL c ([barD 1, barD 2, barD 4] ++ (six0.map (sndD 0) ++ tailD 0 6)) ⊢ _
  iintro H
  ihave H := (credL_append c _ _) $$ H
  icases H with ⟨H1, H⟩
  ihave H := (credL_append c _ _) $$ H
  icases H with ⟨H2, H3⟩
  isplitl [H1]; · iapply hb; iexact H1
  iapply hj
  isplitl [H2]; · iapply hr; iexact H2
  iapply (credL_tail c 6 0)
  iexact H3

end Cert.RS
-- ==== Proof.Ends.lean ====
/-
# The body's two ends

From what the launch deals to the body's start, and from its end to semaphores at zero and whole buffers.
-/
module

public import proofs.«01_k».proof.Proof.Deal

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F]

local notation "𝕄" => MT nD τ sig ℕ (Elt F) ℕ UU ℕ

variable (m : (ℓ : Loc nD τ sig) → Buf (Elt F) ℓ) (K : Dev nD × CK → ℕ)
variable (c : Dev nD) (Q : PUnit.{1} → sProp (MT nD τ sig ℕ (Elt F) ℕ UU ℕ)) (k : Pg F)

/-! ## The buffers cut into slots and put together again -/

theorem all_at {b : Ref sig .tc} {S : Finset (b.ty.shape.Idx)} (hS : S = Finset.univ) (f : Buf (Elt F) ((c : Thread nD τ).loc b)) :
    (((c : Thread nD τ).loc b ↦{fullShare} f : sProp 𝕄)) = ((c : Thread nD τ).loc b ↦[S]{fullShare} f) := by rw [hS]

/-- Disjoint pieces that fill a buffer make the whole of it. -/
theorem join_pieces {T : Type} [Fintype T] {ℓ : Loc nD τ sig} (S : T → Finset (Idx ℓ)) (fs : T → Buf (Elt F) ℓ) (f₀ : Buf (Elt F) ℓ)
    (hd : ∀ t t', t ≠ t' → Disjoint (S t) (S t')) (hc : Finset.univ.biUnion S = Finset.univ) :
    (bigSep Finset.univ fun t => ℓ ↦[S t]{fullShare} fs t) ⊢ (iprop(∃ f : Buf (Elt F) ℓ, ℓ ↦{fullShare} f) : sProp 𝕄) := by
  refine (pointsTo_biUnion_join Finset.univ S fs f₀ fun t _ t' _ h => hd t t' h).trans ?_
  rw [hc]
  iintro ⟨%g, -, H⟩
  iexists g
  iexact H

theorem aAny_intro (y : Fin 3) (f : Buf (Elt F) ((c : Thread nD τ).loc cc0_scratch2)) : aPts c y f ⊢ (aAny c y : sProp 𝕄) := by
  unfold aAny
  iintro H
  iexists f; iexact H

theorem slotAny_intro (si : Fin 6) (k : Fin 2) (f : Buf (Elt F) ((c : Thread nD τ).loc cc0_scratch3)) : slotPts c si k f ⊢ (slotAny c si k : sProp 𝕄) := by
  unfold slotAny
  iintro H
  iexists f; iexact H

theorem a_split : iprop(∃ f : Buf (Elt F) ((c : Thread nD τ).loc cc0_scratch2), ((c : Thread nD τ).loc cc0_scratch2 ↦{fullShare} f))
    ⊢ (bigSep Finset.univ fun y : Fin 3 => aAny c y : sProp 𝕄) := by
  have h (f : Buf (Elt F) ((c : Thread nD τ).loc cc0_scratch2)) : ((c : Thread nD τ).loc cc0_scratch2 ↦{fullShare} f)
      ⊢ (bigSep Finset.univ fun y : Fin 3 => aAny c y : sProp 𝕄) := by
    rw [all_at c aSet_cover f, pointsTo_biUnion _ _ fun p _ q _ h => aSet_disj p q h]
    exact bigSep_mono fun y _ => aAny_intro c y f
  iintro ⟨%f, H⟩
  iapply (h f)
  iexact H

theorem a_join : (bigSep Finset.univ fun y : Fin 3 => aAny c y : sProp 𝕄)
    ⊢ iprop(∃ f : Buf (Elt F) ((c : Thread nD τ).loc cc0_scratch2), ((c : Thread nD τ).loc cc0_scratch2 ↦{fullShare} f)) := by
  have h (fs : Fin 3 → Buf (Elt F) ((c : Thread nD τ).loc cc0_scratch2)) : (bigSep Finset.univ fun y : Fin 3 => aPts c y (fs y) : sProp 𝕄)
      ⊢ iprop(∃ f : Buf (Elt F) ((c : Thread nD τ).loc cc0_scratch2), ((c : Thread nD τ).loc cc0_scratch2 ↦{fullShare} f)) := by
    exact join_pieces (ℓ := (c : Thread nD τ).loc cc0_scratch2) (fun y : Fin 3 => (aSlot y).view.set) fs (fs 0) aSet_disj aSet_cover
  unfold aAny
  iintro H
  ihave H := (BI.bigSep_exists_pi Finset.univ (fun (y : Fin 3) (f : Buf (Elt F) ((c : Thread nD τ).loc cc0_scratch2)) => (aPts c y f : sProp 𝕄))) $$ H
  icases H with ⟨%fs, H⟩
  iapply (h fs)
  iexact H

theorem slots_eq (A : Fin 6 → Fin 2 → sProp 𝕄) : (bigSep Finset.univ fun p : Fin 6 × Fin 2 => A p.1 p.2)
    = iprop((bigSep Finset.univ fun si : Fin 6 => A si 0) ∗ bigSep Finset.univ fun si : Fin 6 => A si 1) := by
  rw [BI.bigSep_univ_prod, ← bigSep_sep']
  exact bigSep_congr fun si _ => bigSep_two fun k => A si k

theorem c_split : iprop(∃ f : Buf (Elt F) ((c : Thread nD τ).loc cc0_scratch3), ((c : Thread nD τ).loc cc0_scratch3 ↦{fullShare} f))
    ⊢ (bigSep Finset.univ fun p : Fin 6 × Fin 2 => slotAny c p.1 p.2 : sProp 𝕄) := by
  have h (f : Buf (Elt F) ((c : Thread nD τ).loc cc0_scratch3)) : ((c : Thread nD τ).loc cc0_scratch3 ↦{fullShare} f)
      ⊢ (bigSep Finset.univ fun p : Fin 6 × Fin 2 => slotAny c p.1 p.2 : sProp 𝕄) := by
    rw [all_at c cSet_cover f, pointsTo_biUnion _ _ fun p _ q _ h => cSet_disj p q h]
    exact bigSep_mono fun y _ => slotAny_intro c y.1 y.2 f
  iintro ⟨%f, H⟩
  iapply (h f)
  iexact H

theorem c_join : (bigSep Finset.univ fun p : Fin 6 × Fin 2 => slotAny c p.1 p.2 : sProp 𝕄)
    ⊢ iprop(∃ f : Buf (Elt F) ((c : Thread nD τ).loc cc0_scratch3), ((c : Thread nD τ).loc cc0_scratch3 ↦{fullShare} f)) := by
  have h (fs : Fin 6 × Fin 2 → Buf (Elt F) ((c : Thread nD τ).loc cc0_scratch3)) : (bigSep Finset.univ fun p : Fin 6 × Fin 2 => slotPts c p.1 p.2 (fs p) : sProp 𝕄)
      ⊢ iprop(∃ f : Buf (Elt F) ((c : Thread nD τ).loc cc0_scratch3), ((c : Thread nD τ).loc cc0_scratch3 ↦{fullShare} f)) := by
    exact join_pieces (ℓ := (c : Thread nD τ).loc cc0_scratch3) (fun p : Fin 6 × Fin 2 => (cSlot p.1 p.2).view.set) fs (fs (0, 0)) cSet_disj cSet_cover
  unfold slotAny
  iintro H
  ihave H := (BI.bigSep_exists_pi Finset.univ (fun (p : Fin 6 × Fin 2) (f : Buf (Elt F) ((c : Thread nD τ).loc cc0_scratch3)) => (slotPts c p.1 p.2 f : sProp 𝕄))) $$ H
  icases H with ⟨%fs, H⟩
  iapply (h fs)
  iexact H

/-- The whole left block. -/
def arg0 : sProp 𝕄 := (c : Thread nD τ).loc main_arg0 ↦{fullShare} m ((c : Thread nD τ).loc main_arg0)

theorem arg0_split : arg0 (F := F) m c ⊣⊢ bigSep Finset.univ fun y : Fin 3 => argA m c y := by
  have h1 : arg0 (F := F) m c ⊣⊢ iprop(((c : Thread nD τ).loc main_arg0 ↦{fullShare.left} m ((c : Thread nD τ).loc main_arg0))
      ∗ ((c : Thread nD τ).loc main_arg0 ↦{fullShare.right} m ((c : Thread nD τ).loc main_arg0))) := pointsTo_share (PosShare.mem_left_op_right fullShare)
  have h2 : ((c : Thread nD τ).loc main_arg0 ↦{fullShare.right} m ((c : Thread nD τ).loc main_arg0) : sProp 𝕄) ⊣⊢
      iprop(((c : Thread nD τ).loc main_arg0 ↦{fullShare.right.left} m ((c : Thread nD τ).loc main_arg0))
      ∗ ((c : Thread nD τ).loc main_arg0 ↦{fullShare.right.right} m ((c : Thread nD τ).loc main_arg0))) := pointsTo_share (PosShare.mem_left_op_right fullShare.right)
  rw [bigSep_three]
  show _ ⊣⊢ iprop(((c : Thread nD τ).loc main_arg0 ↦{fullShare.left} m ((c : Thread nD τ).loc main_arg0))
      ∗ ((c : Thread nD τ).loc main_arg0 ↦{fullShare.right.left} m ((c : Thread nD τ).loc main_arg0))
      ∗ ((c : Thread nD τ).loc main_arg0 ↦{fullShare.right.right} m ((c : Thread nD τ).loc main_arg0)))
  exact ⟨h1.1.trans (BI.sep_mono_r h2.1), BIBase.Entails.trans (BI.sep_mono_r h2.2) h1.2⟩

/-! ## From what the launch deals to the body's start -/

/-- What the launch deals a device. -/
def Seed : sProp 𝕄 :=
  iprop((cred (tallyAt (cell c .bar) 1 3) ∗ bigSep Finset.univ fun si : Fin 6 => iprop(rCred c si 0 ∗ seqN (creds c si) 0 6))
    ∗ (bigSep Finset.univ fun k : CK => atPos ER (cell c k) 0 ∅ 0) ∗ payToks c ∗ arg0 m c ∗ argB m c)

theorem str_join :
    iprop((bigSep Finset.univ fun si : Fin 6 => posAt c si) ∗ (bigSep Finset.univ fun si : Fin 6 => iprop(rCred c si 0 ∗ seqN (creds c si) 0 6))
      ∗ (bigSep Finset.univ fun si : Fin 6 => iprop(sndToks c si 0 ∗ seqN (pays c si) 0 6))) ⊢ (bigSep Finset.univ fun si : Fin 6 => strAt c si : sProp 𝕄) := by
  rw [← bigSep_sep', ← bigSep_sep']
  refine bigSep_mono fun si _ => ?_
  show iprop(posAt c si ∗ (rCred c si 0 ∗ seqN (creds c si) 0 6) ∗ sndToks c si 0 ∗ seqN (pays c si) 0 6) ⊢ strAt c si
  unfold posAt strAt
  iintro ⟨⟨H1, H2, H3, H4, H5, H6⟩, ⟨Hr, Hc⟩, Hs, Hp⟩
  isplitl [H1]; · iexact H1
  isplitl [H2]; · iexact H2
  isplitl [H3]; · iexact H3
  isplitl [H4]; · iexact H4
  isplitl [H5]; · iexact H5
  isplitl [H6]; · iexact H6
  isplitl [Hs]; · iexact Hs
  iapply (fuel_intro c si 6 0)
  isplitl [Hr]; · iexact Hr
  isplitl [Hc]; · iexact Hc
  iexact Hp

theorem sys_join :
    iprop((bigSep Finset.univ fun y : Fin 3 => aAny c y) ∗ (bigSep Finset.univ fun y : Fin 3 => argA m c y)
      ∗ (bigSep Finset.univ fun y : Fin 3 => atPos ER (cell c (.locA y)) 0 ∅ 0) ∗ (bigSep Finset.univ fun y : Fin 3 => aToks c y 0 8))
      ⊢ (bigSep Finset.univ fun y : Fin 3 => iprop(aAny c y ∗ argA m c y ∗ atPos ER (cell c (.locA y)) 0 ∅ 0 ∗ aToks c y 0 8) : sProp 𝕄) := by
  rw [← bigSep_sep', ← bigSep_sep', ← bigSep_sep']
theorem begin_intro : iprop(Ow c allD ∗ Seed m c ∗ Pipeline.scopedRest cfg0.spec c ∗ oHas m c 0) ⊢ Begin (F := F) m c := by
  rw [show (Pipeline.scopedRest cfg0.spec c : sProp 𝕄) = _ from scopedRest0_eq c]
  unfold Seed Begin
  iintro ⟨HO, ⟨⟨Hbc, Hcr⟩, Hpos, Htok, Ha0, HB⟩, ⟨⟨%f0, Hs0⟩, Hs1, Hs2, Hs3, ⟨%f4, Hs4⟩⟩, Ho⟩
  ihave Hpos := (pos_intro c) $$ Hpos
  icases Hpos with ⟨Hp1, Hp2, Hp3, Hp4⟩
  ihave Htok := (pay_deal c) $$ Htok
  icases Htok with ⟨Ht1, Ht2, Ht3, Ht4⟩
  ihave Hs2 := (a_split c) $$ Hs2
  ihave Hs3 := (c_split c) $$ Hs3
  ihave Hs3 := (Entails.of_eq (slots_eq (F := F) fun si k => slotAny c si k)) $$ Hs3
  icases Hs3 with ⟨Hc0, Hc1⟩
  ihave Ha0 := (arg0_split m c).1 $$ Ha0
  isplitl [HO]; · iexact HO
  isplitl [Hbc Hp1 Ht1]
  · isplitl [Hbc]; · iexact Hbc
    isplitl [Hp1]; · iexact Hp1
    iexact Ht1
  isplitl [Hs0 Hs1 HB Hp2 Ht3]
  · isplitl [Hs0]
    · unfold bHas
      iexists f0
      isplitr; · ipureintro; exact fun i h => absurd h (Nat.not_lt_zero _)
      iexact Hs0
    isplitl [Hs1]; · unfold gAny; iexact Hs1
    isplitl [HB]; · iexact HB
    isplitl [Hp2]; · iexact Hp2
    iexact Ht3
  isplitl [Hs4]
  · iexists 0; iexists 0
    unfold pHas
    iexists f4
    isplitr; · ipureintro; exact fun si h => absurd h (Nat.not_lt_zero _)
    iexact Hs4
  isplitl [Ho]; · iexact Ho
  isplitl [Hs2 Ha0 Hp3 Ht2]
  · iapply (sys_join m c)
    isplitl [Hs2]; · iexact Hs2
    isplitl [Ha0]; · iexact Ha0
    isplitl [Hp3]; · iexact Hp3
    iexact Ht2
  isplitl [Hc0]; · iexact Hc0
  isplitl [Hc1]; · iexact Hc1
  iapply (str_join c)
  isplitl [Hp4]; · iexact Hp4
  isplitl [Hcr]; · iexact Hcr
  iexact Ht4

/-! ## From the body's end: every semaphore closed, every buffer whole -/

theorem close_cell (kd : CK) (n : ℕ) (h : lastOf kd ≤ n) :
    iprop(Ctx m K ∗ atPos ER (cell c kd) n ∅ 0) ⊢ (iprop(|={Set.univ}=> (semVal (cell c kd) 0)) : sProp 𝕄) := by
  iintro ⟨#HC, H⟩
  imod (Rounds.cell_close ER (Rd m) (Set.mem_univ (K (c, kd))) (fun h => h) (R := n) (duties_later m c kd n h)) $$ [H] with Hz
  · isplitr; · iapply (ctx_inv m K); iexact HC
    iexact H
  imodintro
  iexact Hz

theorem close_stream (si : Fin 6) : iprop(Ctx m K ∗ strEnd c si)
    ⊢ (iprop(|={Set.univ}=> (((semVal (cell c (.snd si 0)) 0 ∗ semVal (cell c (.snd si 1)) 0) ∗ (semVal (cell c (.rcv si 0)) 0 ∗ semVal (cell c (.rcv si 1)) 0)
      ∗ (semVal (cell c (.rdy si 0)) 0 ∗ semVal (cell c (.rdy si 1)) 0)) ∗ slotAny c si 0 ∗ slotAny c si 1)) : sProp 𝕄) := by
  unfold strEnd sAt rAt yAt
  iintro ⟨#HC, H1, H2, H3, H4, H5, H6, Hs0, Hs1⟩
  imod (close_cell m K c (.snd si 1) 3 (Nat.le_of_eq rfl)) $$ [H1] with Z1
  · isplitr; · iexact HC
    iexact H1
  imod (close_cell m K c (.snd si 0) 4 (Nat.le_of_eq rfl)) $$ [H2] with Z2
  · isplitr; · iexact HC
    iexact H2
  imod (close_cell m K c (.rcv si 0) 3 (Nat.le_of_eq rfl)) $$ [H3] with Z3
  · isplitr; · iexact HC
    iexact H3
  imod (close_cell m K c (.rcv si 1) 4 (Nat.le_of_eq rfl)) $$ [H4] with Z4
  · isplitr; · iexact HC
    iexact H4
  imod (close_cell m K c (.rdy si 0) 3 (Nat.le_of_eq rfl)) $$ [H5] with Z5
  · isplitr; · iexact HC
    iexact H5
  imod (close_cell m K c (.rdy si 1) 3 (Nat.le_of_eq rfl)) $$ [H6] with Z6
  · isplitr; · iexact HC
    iexact H6
  imodintro
  isplitr [Hs0 Hs1]
  · isplitl [Z1 Z2]
    · isplitl [Z2]; · iexact Z2
      iexact Z1
    isplitl [Z3 Z4]
    · isplitl [Z3]; · iexact Z3
      iexact Z4
    isplitl [Z5]; · iexact Z5
    iexact Z6
  isplitl [Hs0]; · iexact Hs0
  iexact Hs1

theorem close_sys (y : Fin 3) : iprop(Ctx m K ∗ aIdle m c y 8 0) ⊢ (iprop(|={Set.univ}=> (aAny c y ∗ argA m c y ∗ semVal (cell c (.locA y)) 0)) : sProp 𝕄) := by
  unfold aIdle
  iintro ⟨#HC, H1, H2, H3, -⟩
  imod (close_cell m K c (.locA y) 8 (Nat.le_of_eq rfl)) $$ [H3] with Z
  · isplitr; · iexact HC
    iexact H3
  imodintro
  isplitl [H1]; · iexact H1
  isplitl [H2]; · iexact H2
  iexact Z

theorem with_ctx {I : Type} [DecidableEq I] {S : Finset I} {R : sProp 𝕄} [BI.Persistent R] {A B : I → sProp 𝕄} (h : ∀ i, iprop(R ∗ A i) ⊢ B i) :
    iprop(R ∗ bigSep S A) ⊢ bigSep S B := by
  refine (sep_mono_left (BI.bigSep_of_persistent S R)).trans ?_
  rw [← bigSep_sep']
  exact bigSep_mono fun i _ => h i

/-- All of a device's semaphores at zero. -/
def zeros : sProp 𝕄 := bigSep Finset.univ fun k : CK => semVal (cell c k) 0

theorem close_all : iprop(Ctx m K ∗ Finish m c)
    ⊢ (iprop(|={Set.univ}=> (zeros c ∗ (arg0 m c ∗ argB m c) ∗ Pipeline.scopedRest cfg0.spec c ∗ oHas m c 6 ∗ Ow c [])) : sProp 𝕄) := by
  have hs : iprop(Ctx m K ∗ bigSep Finset.univ fun si : Fin 6 => strEnd c si)
      ⊢ (iprop(|={Set.univ}=> (((bigSep Finset.univ fun si : Fin 6 => iprop(semVal (cell c (.snd si 0)) 0 ∗ semVal (cell c (.snd si 1)) 0))
        ∗ (bigSep Finset.univ fun si : Fin 6 => iprop(semVal (cell c (.rcv si 0)) 0 ∗ semVal (cell c (.rcv si 1)) 0))
        ∗ (bigSep Finset.univ fun si : Fin 6 => iprop(semVal (cell c (.rdy si 0)) 0 ∗ semVal (cell c (.rdy si 1)) 0)))
        ∗ (bigSep Finset.univ fun si : Fin 6 => slotAny c si 0) ∗ (bigSep Finset.univ fun si : Fin 6 => slotAny c si 1))) : sProp 𝕄) := by
    rw [← bigSep_sep', ← bigSep_sep', ← bigSep_sep', ← bigSep_sep']
    exact (with_ctx fun si => close_stream m K c si).trans (bigSep_fupd _ _)
  have hy : iprop(Ctx m K ∗ bigSep Finset.univ fun y : Fin 3 => aIdle m c y 8 0)
      ⊢ (iprop(|={Set.univ}=> ((bigSep Finset.univ fun y : Fin 3 => aAny c y) ∗ (bigSep Finset.univ fun y : Fin 3 => argA m c y)
        ∗ (bigSep Finset.univ fun y : Fin 3 => semVal (cell c (.locA y)) 0))) : sProp 𝕄) := by
    rw [← bigSep_sep', ← bigSep_sep']
    exact (with_ctx fun y => close_sys m K c y).trans (bigSep_fupd _ _)
  unfold Finish End zeros
  rw [show (Pipeline.scopedRest cfg0.spec c : sProp 𝕄) = _ from scopedRest0_eq c, by_kind]
  iintro ⟨#HC, ⟨HO, Hb, Hp, Ho, Ha, Hst⟩, Hbar, Hg, HB, HlB⟩
  imod hs $$ [Hst] with ⟨⟨Z1, Z2, Z3⟩, Hs0, Hs1⟩
  · isplitr; · iexact HC
    iexact Hst
  imod hy $$ [Ha] with ⟨Ha, Ha0, Z4⟩
  · isplitr; · iexact HC
    iexact Ha
  imod (close_cell m K c .bar 1 (Nat.le_of_eq rfl)) $$ [Hbar] with Z5
  · isplitr; · iexact HC
    iexact Hbar
  imod (close_cell m K c .locB 9 (Nat.le_of_eq rfl)) $$ [HlB] with Z6
  · isplitr; · iexact HC
    iexact HlB
  imodintro
  isplitl [Z1 Z2 Z3 Z4 Z5 Z6]
  · isplitl [Z5 Z6]
    · isplitl [Z5]; · iexact Z5
      iexact Z6
    isplitl [Z4]; · iexact Z4
    isplitl [Z1]; · iexact Z1
    isplitl [Z2]; · iexact Z2
    iexact Z3
  isplitl [Ha0 HB]
  · isplitl [Ha0]; · iapply (arg0_split m c).2; iexact Ha0
    iexact HB
  isplitl [Hb Hg Ha Hs0 Hs1 Hp]
  · unfold bHas pHas gAny
    icases Hb with ⟨%f0, -, Hb⟩
    icases Hp with ⟨%f4, -, Hp⟩
    isplitl [Hb]; · iexists f0; iexact Hb
    isplitl [Hg]; · iexact Hg
    isplitl [Ha]; · iapply (a_join c); iexact Ha
    isplitl [Hs0 Hs1]
    · iapply (c_join c)
      iapply (Entails.of_eq (slots_eq (F := F) fun si k => slotAny c si k).symm)
      isplitl [Hs0]; · iexact Hs0
      iexact Hs1
    iexists f4; iexact Hp
  isplitl [Ho]; · iexact Ho
  iexact HO

end Cert.RS
-- ==== Proof.Launch.lean ====
/-
# The body under the launch

The launch's data, and the body run against them.
-/
module

public import proofs.«01_k».proof.Proof.Ends
public import proofs.«01_k».proof.Proof.Gen.KernelIdeal.Launch

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL tallyL_pos)

variable {F : FTy → Type} [FloatOps F]

local notation "𝕄" => MT nD τ sig ℕ (Elt F) ℕ UU ℕ

variable (m : (ℓ : Loc nD τ sig) → Buf (Elt F) ℓ) (K : Dev nD × CK → ℕ)
variable (c : Dev nD) (Q : PUnit.{1} → sProp (MT nD τ sig ℕ (Elt F) ℕ UU ℕ)) (k : Pg F)

/-! ## The result's contents -/

/-- Every element of the result lies in the columns of one stream. -/
theorem col_cover (i : S512x4096.Idx) : ∃ (si : Fin 6) (x : (SD (wid si)).Idx), (oRect si).toLoadRect.idx x = i := by
  have h0 : (i 0).val < 512 := (i 0).isLt
  have h1 : (i 1).val < 4096 := (i 1).isLt
  have hs : ∃ si : Fin 6, colOf si ≤ (i 1).val ∧ (i 1).val < colOf si + wid si := by
    generalize (i 1).val = n at h1
    by_cases a1 : n < 704; · exact ⟨0, Nat.zero_le _, by show n < 0 + 704; omega⟩
    by_cases a2 : n < 1408; · exact ⟨3, by show 704 ≤ n; omega, by show n < 704 + 704; omega⟩
    by_cases a3 : n < 2112; · exact ⟨1, by show 1408 ≤ n; omega, by show n < 1408 + 704; omega⟩
    by_cases a4 : n < 2816; · exact ⟨4, by show 2112 ≤ n; omega, by show n < 2112 + 704; omega⟩
    by_cases a5 : n < 3456; · exact ⟨2, by show 2816 ≤ n; omega, by show n < 2816 + 640; omega⟩
    exact ⟨5, by show 3456 ≤ n; omega, by show n < 3456 + 640; omega⟩
  obtain ⟨si, hl, hu⟩ := hs
  refine ⟨si, fun a => ⟨(i a).val - (![0, colOf si] : Fin 2 → ℕ) a, ?_⟩, ?_⟩
  · revert a
    refine Fin.forall_fin_two.mpr ⟨?_, ?_⟩
    · show (i 0).val - 0 < 512; omega
    · show (i 1).val - colOf si < wid si; omega
  · funext a
    refine Fin.ext ?_
    revert a
    refine Fin.forall_fin_two.mpr ⟨?_, ?_⟩
    · show 0 + 1 * ((i 0).val - 0) = (i 0).val; omega
    · show colOf si + 1 * ((i 1).val - colOf si) = (i 1).val; omega

theorem out_unique (f g : Buf (Elt F) ((c : Thread nD τ).loc cc0_stg0_0)) (hf : oOK m c 6 f) (hg : oOK m c 6 g) : f = g := by
  funext i
  obtain ⟨si, x, rfl⟩ := col_cover i
  exact congrFun ((hf si si.isLt).trans (hg si si.isLt).symm) x

theorem out_exists : ∀ n ≤ 6, ∃ f : Buf (Elt F) ((c : Thread nD τ).loc cc0_stg0_0), oOK m c n f
  | 0, _ => ⟨m ((c : Thread nD τ).loc cc0_stg0_0), fun _ h => absurd h (Nat.not_lt_zero _)⟩
  | n + 1, h => by
    obtain ⟨f, hf⟩ := out_exists n (by omega)
    exact ⟨_, oOK_store m c ⟨n, by omega⟩ f hf⟩

/-- A device's result: each stream's columns are its sum. -/
def outF : (cc0_stg0_0 : Ref sig .tc).ty.Contents (Elt F) := (out_exists m c 6 (Nat.le_refl 6)).choose

theorem outF_ok : oOK m c 6 (outF m c) := (out_exists m c 6 (Nat.le_refl 6)).choose_spec

theorem outF_at (si : Fin 6) (x : (SD (wid si)).Idx) : outF m c ((oRect si).toLoadRect.idx x) = outV m c si x :=
  congrFun (outF_ok m c si si.isLt) x

/-! ## The launch's data -/

abbrev osem : {k : CK // k ≠ .bar} → SemLoc sig := fun k => csem k.1

/-- What stays with a device: its positions and the tokens it pays with. -/
def mine : sProp 𝕄 := iprop((bigSep Finset.univ fun k : CK => atPos ER (cell c k) 0 ∅ 0) ∗ payToks c)

/-- The records shared by all. -/
def records : sProp 𝕄 := bigSep Finset.univ fun p : Dev nD × CK => iprop(cellInv ER (Rd m) (K p) (cell p.1 p.2) ∗ reached ER (cell p.1 p.2) 0)

instance records_persistent : BI.Persistent (records m K) := by unfold records; infer_instance

def G : sProp 𝕄 :=
  iprop((bigSep Finset.univ fun k : CK => roundState ER (Rd m) (cell c k) 0)
    ∗ ((bigSep Finset.univ fun k : CK => atPos ER (cell c k) 0 ∅ 0) ∗ bigSep Finset.univ fun k : CK => reached ER (cell c k) 0) ∗ ownToks c)

def G' : sProp 𝕄 := iprop(∃ K, records m K ∗ mine c)

/-- Before the body: the records and what the launch deals. -/
def start : sProp 𝕄 := iprop(∃ K, Ctx m K ∗ Seed m c)

/-- After the body: what outlives it. -/
def last : sProp 𝕄 := iprop(unscopedSems0 c ∗ arg0 m c ∗ argB m c)

def Φ₀ : sProp 𝕄 := iprop(start m c ∗ Pipeline.scopedRest cfg0.spec c)
def Φ₁ : sProp 𝕄 := iprop(last m c ∗ Pipeline.ownSems0 osem c ∗ Pipeline.scopedRest cfg0.spec c)

def dats (_ : Fin 1) (c : Dev nD) : Dat τ (Elt F) ℕ ℕ UU ℕ cfg0 c where
  A w := m ((cfg0.win w).arr.view.loc (c : Thread nD τ))
  after w _ := match w with
    | ⟨0, _⟩ => outF m c
  Φ t := match t with
    | ⟨0, _⟩ => Φ₀ m c
    | ⟨_ + 1, _⟩ => Φ₁ m c
  q _ := fullShare
  owed t := match t with
    | ⟨0, _⟩ => owed c allD
    | ⟨_ + 1, _⟩ => owed c []

theorem sems_eq : (zeros c : sProp 𝕄)
    = iprop(unscopedSems0 c ∗ Pipeline.ownSems0 (Ix := ℕ) (Name := ℕ) (U := UU) (Lvl := ℕ) (Val := Elt F) (τ := τ) osem c) := by
  have hu : (unscopedSems0 c : sProp 𝕄) = semVal (cell c .bar) 0 := by
    unfold unscopedSems0; rw [bigSep_eq_bigSepL_of_eq [SemLoc.reg bSem] (by decide +kernel) (by decide)]; rfl
  rw [hu]
  unfold zeros
  rw [bigSep_univ_at _ CK.bar, ← BI.bigSep_subtype_ne CK.bar fun k : CK => (semVal (cell c k) 0 : sProp 𝕄)]
  rfl

theorem owns_whole_eq (b : Ref sig .tc) (x : b.ty.Contents (Elt F)) :
    (owns (Ix := ℕ) (Name := ℕ) (U := UU) (Lvl := ℕ) (c : Thread nD τ) (Memref.whole b) fullShare x : sProp 𝕄)
      = iprop(∃ f : Buf (Elt F) ((c : Thread nD τ).loc b), ⌜f = x⌝ ∗ (((c : Thread nD τ).loc b) ↦{fullShare} f)) := by
  unfold owns; simp only [Memref.view_whole, View.read_whole, View.set_whole]

/-- The result's staging buffer holding `x`. -/
abbrev stg (x : (cc0_stg0_0 : Ref sig .tc).ty.Contents (Elt F)) : sProp 𝕄 :=
  owns (Ix := ℕ) (Name := ℕ) (U := UU) (Lvl := ℕ) (c : Thread nD τ) (Memref.whole cc0_stg0_0) fullShare x

theorem stg_in (x : (cc0_stg0_0 : Ref sig .tc).ty.Contents (Elt F)) : stg c x ⊢ oHas m c 0 := by
  unfold stg oHas
  rw [owns_whole_eq]
  iintro ⟨%f, -, H⟩
  iexists f
  isplitr; · ipureintro; exact fun _ h => absurd h (Nat.not_lt_zero _)
  iexact H

theorem stg_out : oHas m c 6 ⊢ stg c (outF m c) := by
  unfold stg oHas
  rw [owns_whole_eq]
  iintro ⟨%f, %hf, H⟩
  iexists f
  isplitr; · ipureintro; exact out_unique m c f _ hf (outF_ok m c)
  iexact H

def pre : sProp 𝕄 := iprop(Φ₀ m c ∗ (dats m 0 c).owesAt (0 : ℕ) (t0_0 : Fin cfg0.N).castSucc ∗ (∃ d, stg c ((dats m 0 c).before (0 : Fin 1) t0_0 d)))
def post : sProp 𝕄 := iprop(Φ₁ m c ∗ (dats m 0 c).owesAt (0 : ℕ) (t0_0 : Fin cfg0.N).succ ∗ stg c (outF m c))

theorem ow_in : (dats m 0 c).owesAt (0 : ℕ) (t0_0 : Fin cfg0.N).castSucc ⊢ Ow c allD := by
  unfold Dat.owesAt Pipeline.owesWithin Ow
  rw [show (dats m 0 c).owed (t0_0 : Fin cfg0.N).castSucc = owed c allD from rfl]
  iintro ⟨%W, -, H⟩
  iexists W; iexact H

theorem ow_out : Ow c [] ⊢ (dats m 0 c).owesAt (0 : ℕ) (t0_0 : Fin cfg0.N).succ := by
  unfold Dat.owesAt Pipeline.owesWithin Ow
  rw [show (dats m 0 c).owed (t0_0 : Fin cfg0.N).succ = owed c [] from rfl]
  iintro ⟨%W, H⟩
  iexists W
  isplitr; · ipureintro; exact fun _ _ => Or.inl trivial
  iexact H

theorem post_intro : iprop(Ctx m K ∗ Finish m c) ⊢ iprop(|={Set.univ}=> post m c) := by
  iintro H
  imod (close_all m K c) $$ H with ⟨HZ, ⟨H0, HB⟩, HS, Ho, HO⟩
  imodintro
  unfold post Φ₁ last
  ihave HZ := (Entails.of_eq (sems_eq c)) $$ HZ
  icases HZ with ⟨HU, HZ⟩
  isplitl [HU H0 HB HZ HS]
  · isplitl [HU H0 HB]
    · isplitl [HU]; · iexact HU
      isplitl [H0]; · iexact H0
      iexact HB
    isplitl [HZ]; · iexact HZ
    iexact HS
  isplitl [HO]; · iapply (ow_out m c); iexact HO
  iapply (stg_out m c); iexact Ho

theorem pre_intro : pre m c ⊢ iprop(∃ K, Ctx m K ∗ Begin m c) := by
  unfold pre Φ₀ start
  iintro ⟨⟨⟨%K, #HC, HS⟩, HR⟩, HO, ⟨%d, Hg⟩⟩
  iexists K
  isplitr; · iexact HC
  iapply (begin_intro m c)
  isplitl [HO]; · iapply (ow_in m c); iexact HO
  isplitl [HS]; · iexact HS
  isplitl [HR]; · iexact HR
  iapply (stg_in m c); iexact Hg

theorem op_device (f : Dev nD → Pg F) : WPc c (.op .deviceId f) Q = WPc c (f c) Q := wp_deviceId _ _ _ _

theorem op_ret : iprop(|={Set.univ}=> Q ⟨⟩) ⊢ WPc c (.ret ⟨⟩) Q := Entails.of_eq (wp_ret _ _ _ _ _).symm

theorem body_run (t : Fin cfg0.N) : pre m c ⊢ WPc c (bodyAt0 t) fun _ => post m c := by
  rw [body_eq, op_device]
  iintro H
  ihave H := (pre_intro m c) $$ H
  icases H with ⟨%K, #HC, HB⟩
  iapply (op_body m K c fun _ => post m c) $$ [HB]
  · isplitr; · iexact HC
    iexact HB
  iintro HF
  iapply (op_ret c fun _ => post m c)
  imod (post_intro m K c) $$ [HF] with HP
  · isplitr; · iexact HC
    iexact HF
  imodintro
  iexact HP

set_option maxRecDepth 65536 in
theorem body_obligation (c : Dev nD) : BodyObligation (dats m 0 c) (defs₀ (F := F)) 𝒱₀ (0 : ℕ) Set.univ := fun t => by
  rw [fin_N0 t]
  rw [bigSep_W0, bigSep_W0]
  exact body_run m c t0_0

end Cert.RS
-- ==== Proof.Main.lean ====
/-
# The run of the whole mesh

The launch's ghost state dealt to the devices, and the run.
-/
module

public import proofs.«01_k».proof.Proof.Launch
public import Idealize.ShloMosaic.Lib.Pipeline.Launch
public import Idealize.ShloMosaic.Lib.Pipeline.Kit
public import Idealize.ShloMosaic.Lib.Pipeline.CollectiveSegs
public import Idealize.ShloMosaic.Lib.Pipeline.Value

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL tallyL_pos)

variable {F : FTy → Type} [FloatOps F]

local notation "𝕄" => MT nD τ sig ℕ (Elt F) ℕ UU ℕ

variable (m : (ℓ : Loc nD τ sig) → Buf (Elt F) ℓ) (K : Dev nD × CK → ℕ)
variable (c : Dev nD) (Q : PUnit.{1} → sProp (MT nD τ sig ℕ (Elt F) ℕ UU ℕ)) (k : Pg F)

/-! ## The launch's ghost state dealt to the devices -/

theorem ownSemFacts : Pipeline.OwnSemFacts cfg0.spec osem where
  isScoped := by decide +kernel
  inj := fun a b h => Subtype.ext (csem_injective h)
  disj := by decide +kernel

theorem share_eq (c : Dev nD) (w : Fin cfg0.W) : (dats m 0 c).share w = fullShare := by unfold Dat.share; split <;> rfl

def u₀ : UU :=
  (initOf (Pipeline.cells cfgs cellOf_inj) (Pipeline.launchToks cfgs cellOf_inj), initOf allCells allToks)

theorem fund : BI.own (ER (initOf allCells allToks)) ⊢ (iprop(|==> bigSep Finset.univ (G m)) : sProp 𝕄) := by
  have hC (Φ : GSem nD τ sig → sProp 𝕄) : bigSep allCells Φ = bigSep Finset.univ fun c : Dev nD => bigSep Finset.univ fun k : CK => Φ (cell c k) := by
    unfold allCells; rw [bigSep_map, BI.bigSep_univ_prod]; rfl
  have hT : bigSep allToks (fun x => (dutyTok ER x.1 x.2.1 x.2.2 : sProp 𝕄)) = bigSep Finset.univ fun c : Dev nD => ownToks c := by
    unfold allToks; rw [bigSep_map, BI.bigSep_univ_prod]; rfl
  iintro H
  imod (Rounds.fund ER (Rd m) allCells allToks) $$ H with ⟨H1, H2, H3, H4⟩
  imodintro
  ihave H1 := (Entails.of_eq (hC fun g => roundState ER (Rd m) g 0)) $$ H1
  ihave H2 := (Entails.of_eq (hC fun g => reached ER g 0)) $$ H2
  ihave H3 := (Entails.of_eq (hC fun g => atPos ER g 0 ∅ 0)) $$ H3
  ihave H4 := (Entails.of_eq hT) $$ H4
  unfold G
  simp only [bigSep_sep']
  isplitl [H1]; · iexact H1
  isplitl [H2 H3]
  · isplitl [H3]; · iexact H3
    iexact H2
  iexact H4

/-- A device's semaphores, each with its invariant. -/
def opened : sProp 𝕄 :=
  iprop((bigSep Finset.univ fun k : CK => iprop(∃ κ : ℕ, cellInv ER (Rd m) κ (cell c k)))
    ∗ ((bigSep Finset.univ fun k : CK => atPos ER (cell c k) 0 ∅ 0) ∗ bigSep Finset.univ fun k : CK => reached ER (cell c k) 0) ∗ ownToks c)

theorem core_alloc : iprop(Pipeline.ownSems0 (Ix := ℕ) (Name := ℕ) (U := UU) (Lvl := ℕ) (Val := Elt F) (τ := τ) osem c ∗ unscopedSems0 c ∗ G m c)
    ⊢ iprop(|={Set.univ}=> opened m c) := by
  have hA : iprop(zeros c ∗ bigSep Finset.univ fun k : CK => roundState ER (Rd m) (cell c k) 0)
      ⊢ (iprop(|={Set.univ}=> bigSep Finset.univ fun k : CK => iprop(∃ κ : ℕ, cellInv ER (Rd m) κ (cell c k))) : sProp 𝕄) := by
    unfold zeros
    rw [← bigSep_sep']
    exact (bigSep_mono fun k _ => (Rounds.body_intro ER (Rd m) (cell c k)).trans inv_alloc).trans (bigSep_fupd _ _)
  unfold G opened
  iintro ⟨Ho, Hu, Hst, Hat, Htok⟩
  ihave Hz := (Entails.of_eq (sems_eq c).symm) $$ [Ho Hu]
  · isplitl [Hu]; · iexact Hu
    iexact Ho
  imod hA $$ [Hz Hst] with HI
  · isplitl [Hz]; · iexact Hz
    iexact Hst
  imodintro
  isplitl [HI]; · iexact HI
  isplitl [Hat]; · iexact Hat
  iexact Htok

theorem ghost_intro : iprop(records m K ∗ mine c) ⊢ G' m c := by
  unfold G'
  iintro H
  iexists K
  iexact H

theorem regroup : (bigSep Finset.univ fun c : Dev nD => opened m c) ⊢ bigSep Finset.univ (G' m) := by
  have hM : iprop((bigSep Finset.univ fun c : Dev nD => bigSep Finset.univ fun k : CK => atPos ER (cell c k) 0 ∅ 0) ∗ bigSep Finset.univ fun c : Dev nD => payToks c)
      ⊢ (bigSep Finset.univ fun c : Dev nD => mine c : sProp 𝕄) := by
    unfold mine
    rw [← bigSep_sep']
  have hR (K : Dev nD × CK → ℕ) : iprop((bigSep Finset.univ fun p : Dev nD × CK => cellInv ER (Rd m) (K p) (cell p.1 p.2)) ∗ bigSep Finset.univ fun p : Dev nD × CK => reached ER (cell p.1 p.2) 0)
      ⊢ records m K := by
    unfold records
    rw [← bigSep_sep']
  unfold opened
  rw [bigSep_sep', bigSep_sep', bigSep_sep', toks_around,
    ← BI.bigSep_univ_prod (fun p : Dev nD × CK => (iprop(∃ κ : ℕ, cellInv ER (Rd m) κ (cell p.1 p.2)) : sProp 𝕄)),
    ← BI.bigSep_univ_prod (fun p : Dev nD × CK => (reached ER (cell p.1 p.2) 0 : sProp 𝕄))]
  iintro ⟨HI, ⟨Hat, HR⟩, Htok⟩
  ihave HK := (BI.bigSep_exists_pi Finset.univ (fun (p : Dev nD × CK) (κ : ℕ) => (cellInv ER (Rd m) κ (cell p.1 p.2) : sProp 𝕄))) $$ HI
  icases HK with ⟨%K, HI⟩
  iapply (with_ctx (R := records m K) (A := mine) (B := G' m) fun c => ghost_intro m K c)
  isplitl [HI HR]
  · iapply (hR K)
    isplitl [HI]; · iexact HI
    iexact HR
  iapply hM
  isplitl [Hat]; · iexact Hat
  iexact Htok

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ iprop(|={Set.univ}=> bigSep Finset.univ (G' m)) :=
  ((bigSep_mono fun c _ => core_alloc m c).trans (bigSep_fupd _ _)).trans (BI.fupd_mono (regroup m))

/-! ## The launch's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => owed d allD) c ∗ prngReg c (ρ c) ∗ G' m c)
      ⊢ iprop(|={Set.univ}=> (start m c ∗ emp)) := by
  rw [Pipeline.unscopedRestP_none, show (Pipeline.unscopedRest cfg0.spec c (fun b => m ((c : Thread nD τ).loc b)) : sProp 𝕄) = _ from unscopedRest0_eq c _]
  unfold G' mine start Seed Ctx records
  iintro ⟨⟨H0, H1⟩, Hlev, Hcr, -, ⟨%K, HR, Hat, Htok⟩⟩
  ihave Hc := (cred_deal c) $$ Hcr
  imodintro
  isplitl
  · iexists K
    isplitl [HR Hlev]
    · isplitl [HR]; · iexact HR
      iexact Hlev
    isplitl [Hc]; · iexact Hc
    isplitl [Hat]; · iexact Hat
    isplitl [Htok]; · iexact Htok
    unfold arg0 argB
    isplitl [H0]; · iexact H0
    iexact H1
  iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem above_all : Above 0 allD := by
  intro x hx
  have h : ∀ n ∈ allD.map (fun x : Due => x.2.2.1), 0 < n := by decide
  exact h _ (List.mem_map_of_mem hx)

theorem waits (c : Dev nD) : (levAts L lv : sProp 𝕄) ⊢ Pipeline.cellsWaits cfgs (dats m) (0 : ℕ) 0 c :=
  Pipeline.cellsWaits_intro cfgs (dats m) (0 : ℕ) 0 c fun w s t => by
    rcases t with ⟨_ | _, ht⟩
    · exact mayWait c _ (by decide) above_all below_all
    · exact mayWait c _ (by decide) (fun _ h => nomatch h) (fun _ h => nomatch h)

/-! ## What the run leaves -/

theorem flushed_eq (c : Dev nD) (t : Fin cfg0.N) : (dats m 0 c).flushed 0 t = ((cfg0.win 0).blk t).view.read (Elt F) (outF m c) := by
  obtain rfl := fin_N0 t
  have ha : (dats m 0 c).after 0 t0_0 = outF m c := by dsimp only [dats]
  unfold Dat.flushed
  rw [ha]
  funext x
  show outF m c _ = outF m c _
  refine congrArg (outF m c) (funext fun a => Fin.ext ?_)
  revert a
  refine Fin.forall_fin_two.mpr ⟨?_, ?_⟩
  · show (x 0).val = 0 + 1 * (x 0).val; omega
  · show (x 1).val = 0 + 1 * (x 1).val; omega

theorem cover (i : S512x4096.Idx) : ∃ t : Fin cfg0.N, (cfg0.win 0).flush t = true ∧ i ∈ ((cfg0.win 0).blk t).view.set := by
  refine ⟨t0_0, flush0_0 _, ?_⟩
  show i ∈ ((View.whole main_v1).slice (win0_0.rect t0_0)).set
  rw [View.set_slice_whole, Rect.mem_set_unit]
  refine Fin.forall_fin_two.mpr ⟨?_, ?_⟩
  · exact ⟨Nat.zero_le _, (i 0).isLt⟩
  · exact ⟨Nat.zero_le _, (i 1).isLt⟩

theorem arr_eq (c : Dev nD) : (dats m 0 c).arrAt 0 cfg0.N = outF m c :=
  (dats m 0 c).arrAt_eq_of_cover 0 (outF m c) (fun t _ => flushed_eq m c t) cover

/-- What a device's memory holds after the run: its result, and its two arguments unchanged. -/
def endsAt (c : Dev nD) (s : MemSt nD τ sig (Elt F)) : Prop :=
  s.mem ((c : Thread nD τ).loc main_v1) = outF m c
    ∧ s.mem ((c : Thread nD τ).loc main_arg0) = m ((c : Thread nD τ).loc main_arg0)
    ∧ s.mem ((c : Thread nD τ).loc main_arg1) = m ((c : Thread nD τ).loc main_arg1)

theorem read_buf (b : Ref sig .tc) (f : Buf (Elt F) ((c : Thread nD τ).loc b)) (s' : Phys nD τ sig (Elt F)) :
    iprop(((c : Thread nD τ).loc b ↦{fullShare} f) ∗ SI s') ⊢ (iprop(⌜s'.mem.mem ((c : Thread nD τ).loc b) = f⌝ ∗ SI s') : sProp 𝕄) := by
  have h := pointsTo_read_all (Ix := ℕ) (Name := ℕ) (U := UU) (Lvl := ℕ) {()} (fun _ : Unit => (c : Thread nD τ).loc b) (fun _ => f) s'
  rw [bigSep_singleton] at h
  refine h.trans ?_
  iintro ⟨%h, H⟩
  isplitr; · ipureintro; exact h () (Finset.mem_singleton_self _)
  iexact H

/-- What is read of a device's memory beside the result. -/
def restAt (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
    ∧ ∀ sm : SemLoc sig, sm.isScoped .tc = false → s.sem ((c.tc : Thread nD τ), sm) = 0

theorem last_read (c : Dev nD) (s' : Phys nD τ sig (Elt F)) :
    iprop(last m c ∗ emp ∗ SI s') ⊢ (iprop(|={Set.univ}=> (⌜restAt m c s'.mem⌝ ∗ SI s')) : sProp 𝕄) := by
  unfold last arg0 argB
  iintro ⟨⟨Hu, H0, H1⟩, -, HSI⟩
  ihave H := (read_buf c main_arg0 _ s') $$ [H0 HSI]
  · isplitl [H0]; · iexact H0
    iexact HSI
  icases H with ⟨%h0, HSI⟩
  ihave H := (read_buf c main_arg1 _ s') $$ [H1 HSI]
  · isplitl [H1]; · iexact H1
    iexact HSI
  icases H with ⟨%h1, HSI⟩
  imod (Pipeline.unscopedSems0_read (X := unscopedSems0 c) (c := c) fupd_intro s') $$ [Hu HSI] with ⟨%h2, HSI⟩
  · isplitl [Hu]; · iexact Hu
    iexact HSI
  imodintro
  isplitr; · ipureintro; exact ⟨⟨h0, h1⟩, h2⟩
  iexact HSI

set_option maxRecDepth 8000 in
/-- Every run of the mesh ends, each device's result at `outF`, the arguments as they were and every semaphore at zero. -/
theorem run_main (ρ : Dev nD → PrngReg) :
    θ_run defs (onTc (τ := τ) (main (F := F))) ⟨m, fun _ => 0, ρ⟩ (fun r => (∀ c : Dev nD, endsAt m c r.2) ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := fun d => owed d allD) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := last m) (Z := fun _ => iprop(emp))
    (hX := start_intro m ρ) (hin := phi0_intro m) (hout := fun c => Entails.of_eq rfl)
    (QY := restAt m) (hY := last_read m)
    (hQ := fun _ h hs => ⟨fun c => ⟨((h c).1 0).trans (arr_eq m c), (h c).2.2.1⟩, sem_eq_zero hs fun c => (h c).2.2.2⟩)

end Cert.RS
-- ==== Proof.Same.lean ====
/-
# The two programs are one

The kernel and its idealization have the same text, so what they call is equal.
-/
module

public import proofs.«01_k».proof.Defs
public import proofs.«01_k».proof.Proof.Gen.Kernel
public import proofs.«01_k».proof.Proof.Gen.KernelIdeal

@[expose] public section

namespace Cert.RS

open Idealize.ShloMosaic

set_option maxRecDepth 65536 in
/-- The body's calls are equal. -/
theorem defs₀_same : @Cert.Kernel.defs₀ Bits _ _ = @Cert.KernelIdeal.defs₀ Bits _ _ := by
  unfold Cert.Kernel.defs₀ Cert.KernelIdeal.defs₀
  refine congrArg Defs.onTc (funext fun i => funext fun x => ?_)
  obtain ⟨_ | i, hi⟩ := i
  · obtain ⟨t, s⟩ := x
    rfl
  · exact absurd hi (Nat.not_lt.2 (Nat.le_add_left _ _))

set_option maxRecDepth 65536 in
/-- The programs' calls are equal. -/
theorem defs_same : @Cert.Kernel.defs Bits _ _ = @Cert.KernelIdeal.defs Bits _ _ :=
  congrArg (Pipeline.defs (Cert.KernelIdeal.pcfgs (F := Bits))) defs₀_same

end Cert.RS
-- ==== Proof.Value.lean ====
/-
# The value of a column stream, and of the result

With exact arithmetic a stream's result is the sum of the eight products of its round.  The round passes every device once, and
each device on it multiplies the row chunk of the device the round ends at.  So the sum is the sum over the devices of their
share of one row block of the whole product, and the shares join along the contracted dimension.
-/
module

public import proofs.«01_k».proof.Proof.Main
public import Idealize.ShloMosaic.Lib.Layout
public import Idealize.ShloMosaic.Lib.ValueIdx
public import Idealize.ShloMosaic.Lib.MatmulPlain
public import Idealize.ShloMosaic.Lib.StackMember
public import Idealize.ShloMosaic.Lib.Pointwise.Sums

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F]

local notation "𝕄" => MT nD τ sig ℕ (Elt F) ℕ UU ℕ

variable (m : (ℓ : Loc nD τ sig) → Buf (Elt F) ℓ) (K : Dev nD × CK → ℕ)
variable (c : Dev nD) (Q : PUnit.{1} → sProp (MT nD τ sig ℕ (Elt F) ℕ UU ℕ)) (k : Pg F)

open scoped BigOperators

/-! ## The round of a stream -/

/-- The devices a stream's partial sum has passed when it is at `d` after step `t`, each with its step. -/
def trail (y : Fin 3) : ℕ → Dev nD → List (Dev nD × ℕ)
  | 0, d => [(d, 0)]
  | t + 1, d => trail y t (nb d (eTab y t)) ++ [(d, t + 1)]

/-- The whole round that ends at `d` passes every device once, and each handles the chunk of `d`. -/
theorem trail_perm (y : Fin 3) (d : Dev nD) :
    ((trail y 7 d).map fun p => (p.1, nb p.1 (mTab y p.2))).Perm ((List.finRange 8).map fun e => (e, d)) := by
  revert y d; decide +kernel

/-- The chunk at a mask is that many rows down, in the order of the devices. -/
theorem chunk_off (d : Dev nD) (e : Fin 8) : k0_off1 d (BitVec.ofNat 32 e.val) = ![512 * (nb d e).val, 0] := by
  revert d e; decide +kernel

/-! ## One product -/

section Ideal
variable (m : (ℓ : Loc nD τ sig) → Buf (Elt Ideal) ℓ)

/-- The two operands of a device, as matrices. -/
def opA (d : Dev nD) : S4096x2048.Idx → EReal := m ((d : Thread nD τ).loc main_arg0)
def opB (d : Dev nD) : S2048x4096.Idx → EReal := m ((d : Thread nD τ).loc main_arg1)

/-- A column of a stream, as a column of the whole. -/
def gcol (si : Fin 6) (j : Fin (wid si)) : Fin 4096 := ⟨colOf si + j.val, by
  have h : colOf si + wid si ≤ 4096 := by revert si; decide
  have := j.isLt; omega⟩
/-- A row of the chunk of `c`, as a row of the whole. -/
def grow (c : Dev nD) (r : Fin 512) : Fin 4096 := ⟨512 * c.val + r.val, by
  have h : c.val < 8 := c.isLt
  have := r.isLt; omega⟩

/-- The share of device `d` in an element of the product. -/
def share (d : Dev nD) (i j : Fin 4096) : EReal := ∑ k : Fin 2048, opA m d (ValueIdx.ix2 i k) * opB m d (ValueIdx.ix2 k j)

theorem dotD_plain (si : Fin 6) : dotD si = DotDims.plain 512 2048 (wid si) := rfl

/-- The row chunk that is multiplied, at an index. -/
theorem chunk_at (d : Dev nD) (e : Fin 8) (r : Fin 512) (k : Fin 2048) :
    shapeCast S512x2048 (aVal m d e) shapeCasts_S1x512x2048_S512x2048 (ValueIdx.ix2 r k) = opA m d (ValueIdx.ix2 (grow (nb d e) r) k) := by
  rw [aVal, shapeCast_shapeCast]
  show m ((d : Thread nD τ).loc main_arg0) _ = m ((d : Thread nD τ).loc main_arg0) _
  congr 1
  refine Shape.idx_ext₂ ?_ ?_
  · show k0_off1 d (BitVec.ofNat 32 e.val) 0 + 1 * r.val = 512 * (nb d e).val + r.val
    rw [chunk_off]; show 512 * (nb d e).val + 1 * r.val = _; omega
  · show k0_off1 d (BitVec.ofNat 32 e.val) 1 + 1 * k.val = k.val
    rw [chunk_off]; show 0 + 1 * k.val = _; omega

/-- The stream's columns, at an index. -/
theorem cols_at (d : Dev nD) (si : Fin 6) (k : Fin 2048) (j : Fin (wid si)) :
    bVal m d si (ValueIdx.ix2 k j) = opB m d (ValueIdx.ix2 k (gcol si j)) := by
  show m ((d : Thread nD τ).loc main_arg1) _ = m ((d : Thread nD τ).loc main_arg1) _
  congr 1
  refine Shape.idx_ext₂ ?_ ?_
  · show 0 + 1 * k.val = k.val; omega
  · show colOf si + 1 * j.val = colOf si + j.val; omega

/-- A local product is the device's share of the rows of the chunk it handles. -/
theorem prod_at (d : Dev nD) (si : Fin 6) (t : ℕ) (r : Fin 512) (j : Fin (wid si)) :
    prodV m d si t (ValueIdx.ix2 r j) = share m d (grow (nb d (mTab (sysOf si) t)) r) (gcol si j) := by
  rw [prodV, dotV, dotD_plain]
  show FloatOps.matmul (DotDims.plain 512 2048 (wid si)) none _ _ _ (ValueIdx.ix2 r j) = _
  rw [Ideal.matmul_plain_apply]
  show Ideal.ofBits .f32 0x00000000#32 + _ = _
  rw [Ideal.ofBits_zero_f32, zero_add, share]
  refine Finset.sum_congr rfl fun k _ => ?_
  rw [cols_at]
  show (shapeCast S512x2048 (aVal m d (mTab (sysOf si) t)) shapeCasts_S1x512x2048_S512x2048 (ValueIdx.ix2 r k) : EReal) * _ = _
  rw [chunk_at]

/-! ## The sum along the round -/

/-- Adding the local product to what arrived, as the sum of two matrices. -/
theorem addV_slot (si : Fin 6) (x p : FVec Ideal (SD (wid si)) .f32) (i : (SD (wid si)).Idx) :
    addV si (slotV si x) (bufV si p) i = x i + p i := by
  rw [addV, slotV, bufV, shapeCast_shapeCast, shapeCast_shapeCast]
  rfl

/-- The partial sum of a stream at `d` after step `t`, as a matrix. -/
def Y (d : Dev nD) (si : Fin 6) : ℕ → FVec Ideal (SD (wid si)) .f32
  | 0 => prodV m d si 0
  | t + 1 => addV si (X m (nb d (eTab (sysOf si) t)) si t) (bufV si (prodV m d si (t + 1)))

theorem X_slot (d : Dev nD) (si : Fin 6) (t : ℕ) : X m d si t = slotV si (Y m d si t) := by
  cases t with
  | zero => rw [X, Y]
  | succ t => rw [X_succ, Y]

/-- It is the sum of the products along the trail. -/
theorem Y_trail (si : Fin 6) (i : (SD (wid si)).Idx) (t : ℕ) (d : Dev nD) :
    Y m d si t i = ((trail (sysOf si) t d).map fun p => prodV m p.1 si p.2 i).sum := by
  induction t generalizing d with
  | zero => rw [Y, trail, List.map_singleton, List.sum_singleton]
  | succ t ih =>
    rw [Y, X_slot, addV_slot, ih, trail, List.map_append, List.sum_append, List.map_singleton, List.sum_singleton]

/-- A stream's result is the sum of the shares of all devices. -/
theorem out_shares (c : Dev nD) (si : Fin 6) (r : Fin 512) (j : Fin (wid si)) :
    outV m c si (ValueIdx.ix2 r j) = ∑ d : Dev nD, share m d (grow c r) (gcol si j) := by
  have h : outV m c si (ValueIdx.ix2 r j) = Y m c si 7 (ValueIdx.ix2 r j) := rfl
  have hf : (fun p : Dev nD × ℕ => prodV m p.1 si p.2 (ValueIdx.ix2 r j))
      = (fun q : Dev nD × Dev nD => share m q.1 (grow q.2 r) (gcol si j)) ∘ fun p => (p.1, nb p.1 (mTab (sysOf si) p.2)) :=
    funext fun p => prod_at m p.1 si p.2 r j
  rw [h, Y_trail, hf, ← List.map_map, ((trail_perm (sysOf si) c).map _).sum_eq, List.map_map]
  exact (Fin.sum_univ_def _).symm

/-! ## The blocks of one product -/

variable (A : (⟨2, ![4096, 16384]⟩ : Shape).Idx → EReal) (B : (⟨2, ![16384, 4096]⟩ : Shape).Idx → EReal)

/-- The shares of blocks cut along the contracted dimension add up to an element of the whole product. -/
theorem shares_whole (hA : ∀ d : Dev nD, opA m d = Layout.block ⟨2, ![4096, 2048]⟩ ⟨2, ![4096, 16384]⟩ 1 8 d A)
    (hB : ∀ d : Dev nD, opB m d = Layout.block ⟨2, ![2048, 4096]⟩ ⟨2, ![16384, 4096]⟩ 0 8 d B) (i j : Fin 4096) :
    ∑ d : Dev nD, share m d i j = ∑ k : Fin 16384, A (ValueIdx.ix2 i k) * B (ValueIdx.ix2 k j) := by
  rw [Fin.sum_univ_tiles 8 2048 rfl]
  refine Finset.sum_congr rfl fun d _ => Finset.sum_congr rfl fun k _ => ?_
  rw [hA, hB]
  refine congrArg₂ (fun x y => A x * B y) (Shape.idx_ext₂ rfl rfl) (Shape.idx_ext₂ rfl rfl)

/-- So the result of `c` is its row block of the whole product. -/
theorem out_block (hA : ∀ d : Dev nD, opA m d = Layout.block ⟨2, ![4096, 2048]⟩ ⟨2, ![4096, 16384]⟩ 1 8 d A)
    (hB : ∀ d : Dev nD, opB m d = Layout.block ⟨2, ![2048, 4096]⟩ ⟨2, ![16384, 4096]⟩ 0 8 d B)
    (P : (⟨2, ![4096, 4096]⟩ : Shape).Idx → EReal) (hP : ∀ i j : Fin 4096, P (ValueIdx.ix2 i j) = ∑ k : Fin 16384, A (ValueIdx.ix2 i k) * B (ValueIdx.ix2 k j)) (c : Dev nD) :
    outF m c = Layout.block ⟨2, ![512, 4096]⟩ ⟨2, ![4096, 4096]⟩ 0 8 c P := by
  funext i
  obtain ⟨si, x, rfl⟩ := col_cover i
  obtain ⟨r, j, rfl⟩ : ∃ (r : Fin 512) (j : Fin (wid si)), x = ValueIdx.ix2 r j := ⟨x 0, x 1, ValueIdx.eq_ix2 x⟩
  rw [outF_at, out_shares, shares_whole m A B hA hB, ← hP]
  refine congrArg P (Shape.idx_ext₂ ?_ ?_)
  · show 512 * c.val + r.val = c.val * 512 + (0 + 1 * r.val); omega
  · show colOf si + j.val = colOf si + 1 * j.val; omega

end Ideal

end Cert.RS
-- ==== Proof.lean ====
/-
# The claims

The three frames, the idealization, and the value: device by device, the kernel's result is its block of rows of the product.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Main
public import proofs.«01_k».proof.Proof.Same
public import proofs.«01_k».proof.Proof.Value

@[expose] public section

noncomputable section

namespace Cert.Proof

open Idealize.ShloMosaic Idealize.SL.Sem

/-- The idealized kernel's frame. -/
theorem frame_ideal : Cert.quiescent_KernelIdeal := fun m ρ _ =>
  (θ_run Cert.KernelIdeal.defs _ _).mono (fun _ h => ⟨fun c => (h.1 c).2, h.2⟩) (Cert.RS.run_main (F := Ideal) m ρ)

set_option maxRecDepth 65536 in
set_option maxHeartbeats 4000000 in
/-- The kernel's frame, from the same run: the two programs have the same text. -/
theorem frame_kernel : Cert.quiescent_Kernel := fun m ρ _ => by
  have h := (θ_run Cert.KernelIdeal.defs _ _).mono (fun r (h : (∀ c, Cert.RS.endsAt (F := Bits) m c r.2) ∧ r.2.sem = fun _ => 0) => show _ ∧ _ from ⟨fun c => (h.1 c).2, h.2⟩)
    (Cert.RS.run_main (F := Bits) m ρ)
  rw [← Cert.RS.defs_same] at h
  exact h

/-- The reference's frame. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value: each device's result is its block of rows of the one product of the whole operands. -/
theorem algebraic : Cert.algebraic_KernelIdeal_ReferenceIdeal := fun m ρ m' ρ' _ hin => by
  refine ⟨Host.dotGeneral (F := Ideal) (φ₁ := .f32) (φ₂ := .f32) Cert.ReferenceIdeal.dot_S4096x16384_S16384x4096_S4096x4096_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).1.trans ?_, (h.1 c).2⟩) (Cert.RS.run_main (F := Ideal) m ρ)
    exact Cert.RS.out_block m _ _ (fun d => (hin d).1) (fun d => (hin d).2) _
      (fun i j => StackMember.dotGeneral_plain_apply none _ _ i j) c
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_ref, trivial, algebraic⟩

end Cert.Proof

end
